-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_w_finite [hPre_norm_w_finite : Cert.Pre_norm_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_norm_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_w_finite [hPre_norm_w_finite : Cert.Pre_norm_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_norm_w_finite [hKernelIdeal : Cert.KernelIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_w_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_norm_w_finite [hReferenceIdeal : Cert.ReferenceIdeal.Facts] [hPre_norm_w_finite : Cert.Pre_norm_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_norm_w_finite [hKernelIdeal : Cert.KernelIdeal.Facts] [hReferenceIdeal : Cert.ReferenceIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_v6_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_norm_w_finite : Cert.Pre_norm_w_finite.Facts),
    quiescent_Kernel (hKernel := hKernel)
    ∧ quiescent_KernelIdeal (hKernelIdeal := hKernelIdeal)
    ∧ quiescent_KernelIdeal_pre_norm_w_finite (hKernelIdeal := hKernelIdeal) (hPre_norm_w_finite := hPre_norm_w_finite)
    ∧ quiescent_ReferenceIdeal (hReferenceIdeal := hReferenceIdeal)
    ∧ quiescent_ReferenceIdeal_pre_norm_w_finite (hReferenceIdeal := hReferenceIdeal) (hPre_norm_w_finite := hPre_norm_w_finite)
    ∧ preserves_Kernel_KernelIdeal
    ∧ algebraic_KernelIdeal_ReferenceIdeal_pre_norm_w_finite (hKernelIdeal := hKernelIdeal) (hReferenceIdeal := hReferenceIdeal) (hPre_norm_w_finite := hPre_norm_w_finite)
-- ==== Pre_norm_w_finite.lean ====
abbrev S3x384x8192 : Shape := ⟨3, ![3, 384, 8192]⟩
abbrev S3x384x64 : Shape := ⟨3, ![3, 384, 64]⟩
abbrev S8192x2048 : Shape := ⟨2, ![8192, 2048]⟩
abbrev S64x16 : Shape := ⟨2, ![64, 16]⟩
abbrev S3x384x2048 : Shape := ⟨3, ![3, 384, 2048]⟩
abbrev S2048 : Shape := ⟨1, ![2048]⟩
abbrev S2048x3072 : Shape := ⟨2, ![2048, 3072]⟩
abbrev S16x24 : Shape := ⟨2, ![16, 24]⟩
abbrev S3x384 : Shape := ⟨2, ![3, 384]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S3x384x8192 .fp8e4m3) (main_arg1 : FVec F S3x384x64 .f32) (main_arg2 : FVec F S8192x2048 .fp8e4m3) (main_arg3 : FVec F S64x16 .f32) (main_arg4 : FVec F S3x384x2048 .bf16) (main_arg5 : FVec F S2048 .f32) (main_arg6 : FVec F S2048x3072 .fp8e4m3) (main_arg7 : FVec F S16x24 .f32) (main_arg8 : IVec S3x384 32) : IVec S2048 1 :=
  let main_v0 : FVec F S2048 .f32 := Host.absf main_arg5
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  main_v2
-- ==== Kernel.lean ====
abbrev S3x384x8192 : Shape := ⟨3, ![3, 384, 8192]⟩
abbrev S3x384x64 : Shape := ⟨3, ![3, 384, 64]⟩
abbrev S8192x2048 : Shape := ⟨2, ![8192, 2048]⟩
abbrev S64x16 : Shape := ⟨2, ![64, 16]⟩
abbrev S3x384x2048 : Shape := ⟨3, ![3, 384, 2048]⟩
abbrev S2048 : Shape := ⟨1, ![2048]⟩
abbrev S2048x3072 : Shape := ⟨2, ![2048, 3072]⟩
abbrev S16x24 : Shape := ⟨2, ![16, 24]⟩
abbrev S3x384 : Shape := ⟨2, ![3, 384]⟩
abbrev S32x1 : Shape := ⟨2, ![32, 1]⟩
abbrev S3x64x384 : Shape := ⟨3, ![3, 64, 384]⟩
abbrev S1x2048 : Shape := ⟨2, ![1, 2048]⟩
abbrev S3x1x384 : Shape := ⟨3, ![3, 1, 384]⟩
abbrev S3x32x64x384 : Shape := ⟨4, ![3, 32, 64, 384]⟩
abbrev S3x8x64x384 : Shape := ⟨4, ![3, 8, 64, 384]⟩
abbrev S3x16x384 : Shape := ⟨3, ![3, 16, 384]⟩
abbrev S1x384x8192 : Shape := ⟨3, ![1, 384, 8192]⟩
abbrev S1x64x384 : Shape := ⟨3, ![1, 64, 384]⟩
abbrev S1x384x2048 : Shape := ⟨3, ![1, 384, 2048]⟩
abbrev S1x1x384 : Shape := ⟨3, ![1, 1, 384]⟩
abbrev S1x32x64x384 : Shape := ⟨4, ![1, 32, 64, 384]⟩
abbrev S1x8x64x384 : Shape := ⟨4, ![1, 8, 64, 384]⟩
abbrev S1x16x384 : Shape := ⟨3, ![1, 16, 384]⟩
abbrev S384x8192 : Shape := ⟨2, ![384, 8192]⟩
abbrev S384x128 : Shape := ⟨2, ![384, 128]⟩
abbrev S384x2048 : Shape := ⟨2, ![384, 2048]⟩
abbrev S32x384 : Shape := ⟨2, ![32, 384]⟩
abbrev S64x384 : Shape := ⟨2, ![64, 384]⟩
abbrev S384x64 : Shape := ⟨2, ![384, 64]⟩
abbrev S384x1 : Shape := ⟨2, ![384, 1]⟩
abbrev S1x384x128 : Shape := ⟨3, ![1, 384, 128]⟩
abbrev S128x128 : Shape := ⟨2, ![128, 128]⟩
abbrev S1x1 : Shape := ⟨2, ![1, 1]⟩
abbrev S8192x128 : Shape := ⟨2, ![8192, 128]⟩
abbrev S8192x256 : Shape := ⟨2, ![8192, 256]⟩
abbrev S384x256 : Shape := ⟨2, ![384, 256]⟩
abbrev S1x384x256 : Shape := ⟨3, ![1, 384, 256]⟩
abbrev S384 : Shape := ⟨1, ![384]⟩
abbrev S1x128 : Shape := ⟨2, ![1, 128]⟩
abbrev S128x384 : Shape := ⟨2, ![128, 384]⟩
abbrev S16x384 : Shape := ⟨2, ![16, 384]⟩
abbrev S1x384 : Shape := ⟨2, ![1, 384]⟩
abbrev S2048x128 : Shape := ⟨2, ![2048, 128]⟩
abbrev S2048x256 : Shape := ⟨2, ![2048, 256]⟩
abbrev S256x384 : Shape := ⟨2, ![256, 384]⟩
abbrev S1x1x32x384 : Shape := ⟨4, ![1, 1, 32, 384]⟩
abbrev S3x384x32x64 : Shape := ⟨4, ![3, 384, 32, 64]⟩
abbrev S3x384x8x64 : Shape := ⟨4, ![3, 384, 8, 64]⟩
abbrev S3x384x16 : Shape := ⟨3, ![3, 384, 16]⟩

abbrev nBuf : Space → Nat
  | .hbm => 23
  | .vmem => 29
  | .smem => 2
  | _ => 0

abbrev bufTy : (tb : Table) → Fin (tcTables nBuf tb) → BufTy
  | .hbm, ⟨0, _⟩ => ⟨S3x384x8192, .fp8e4m3⟩
  | .hbm, ⟨1, _⟩ => ⟨S3x384x64, .f32⟩
  | .hbm, ⟨2, _⟩ => ⟨S8192x2048, .fp8e4m3⟩
  | .hbm, ⟨3, _⟩ => ⟨S64x16, .f32⟩
  | .hbm, ⟨4, _⟩ => ⟨S3x384x2048, .bf16⟩
  | .hbm, ⟨5, _⟩ => ⟨S2048, .f32⟩
  | .hbm, ⟨6, _⟩ => ⟨S2048x3072, .fp8e4m3⟩
  | .hbm, ⟨7, _⟩ => ⟨S16x24, .f32⟩
  | .hbm, ⟨8, _⟩ => ⟨S3x384, .i32⟩
  | .hbm, ⟨9, _⟩ => ⟨S32x1, .f32⟩
  | .hbm, ⟨10, _⟩ => ⟨S3x64x384, .f32⟩
  | .hbm, ⟨11, _⟩ => ⟨S1x2048, .f32⟩
  | .hbm, ⟨12, _⟩ => ⟨S3x1x384, .i32⟩
  | .hbm, ⟨13, _⟩ => ⟨S3x384x2048, .bf16⟩
  | .hbm, ⟨14, _⟩ => ⟨S3x32x64x384, .bf16⟩
  | .hbm, ⟨15, _⟩ => ⟨S3x8x64x384, .bf16⟩
  | .hbm, ⟨16, _⟩ => ⟨S3x8x64x384, .bf16⟩
  | .hbm, ⟨17, _⟩ => ⟨S3x384x2048, .fp8e4m3⟩
  | .hbm, ⟨18, _⟩ => ⟨S3x16x384, .f32⟩
  | .hbm, ⟨19, _⟩ => ⟨S3x384x32x64, .bf16⟩
  | .hbm, ⟨20, _⟩ => ⟨S3x384x8x64, .bf16⟩
  | .hbm, ⟨21, _⟩ => ⟨S3x384x8x64, .bf16⟩
  | .hbm, ⟨22, _⟩ => ⟨S3x384x16, .f32⟩
  | .local _ .vmem, ⟨0, _⟩ => ⟨S1x384x8192, .fp8e4m3⟩
  | .local _ .vmem, ⟨1, _⟩ => ⟨S1x384x8192, .fp8e4m3⟩
  | .local _ .vmem, ⟨2, _⟩ => ⟨S1x64x384, .f32⟩
  | .local _ .vmem, ⟨3, _⟩ => ⟨S1x64x384, .f32⟩
  | .local _ .vmem, ⟨4, _⟩ => ⟨S8192x2048, .fp8e4m3⟩
  | .local _ .vmem, ⟨5, _⟩ => ⟨S1x384x2048, .bf16⟩
  | .local _ .vmem, ⟨6, _⟩ => ⟨S1x384x2048, .bf16⟩
  | .local _ .vmem, ⟨7, _⟩ => ⟨S1x2048, .f32⟩
  | .local _ .vmem, ⟨8, _⟩ => ⟨S2048x3072, .fp8e4m3⟩
  | .local _ .vmem, ⟨9, _⟩ => ⟨S1x1x384, .i32⟩
  | .local _ .vmem, ⟨10, _⟩ => ⟨S1x1x384, .i32⟩
  | .local _ .vmem, ⟨11, _⟩ => ⟨S32x1, .f32⟩
  | .local _ .vmem, ⟨12, _⟩ => ⟨S1x384x2048, .bf16⟩
  | .local _ .vmem, ⟨13, _⟩ => ⟨S1x384x2048, .bf16⟩
  | .local _ .vmem, ⟨14, _⟩ => ⟨S1x32x64x384, .bf16⟩
  | .local _ .vmem, ⟨15, _⟩ => ⟨S1x32x64x384, .bf16⟩
  | .local _ .vmem, ⟨16, _⟩ => ⟨S1x8x64x384, .bf16⟩
  | .local _ .vmem, ⟨17, _⟩ => ⟨S1x8x64x384, .bf16⟩
  | .local _ .vmem, ⟨18, _⟩ => ⟨S1x8x64x384, .bf16⟩
  | .local _ .vmem, ⟨19, _⟩ => ⟨S1x8x64x384, .bf16⟩
  | .local _ .vmem, ⟨20, _⟩ => ⟨S1x384x2048, .fp8e4m3⟩
  | .local _ .vmem, ⟨21, _⟩ => ⟨S1x384x2048, .fp8e4m3⟩
  | .local _ .vmem, ⟨22, _⟩ => ⟨S1x16x384, .f32⟩
  | .local _ .vmem, ⟨23, _⟩ => ⟨S1x16x384, .f32⟩
  | .local _ .vmem, ⟨24, _⟩ => ⟨S384x8192, .bf16⟩
  | .local _ .vmem, ⟨25, _⟩ => ⟨S384x128, .f32⟩
  | .local _ .vmem, ⟨26, _⟩ => ⟨S384x2048, .bf16⟩
  | .local _ .vmem, ⟨27, _⟩ => ⟨S32x384, .f32⟩
  | .local _ .vmem, ⟨28, _⟩ => ⟨S32x384, .f32⟩
  | .local _ .smem, ⟨0, _⟩ => ⟨S64x16, .f32⟩
  | .local _ .smem, ⟨1, _⟩ => ⟨S16x24, .f32⟩
  | _, _ => ⟨S3x384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_stg3_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32 : BitVec 32 := 0#32
  let c8_i32 : BitVec 32 := 8#32
  let v711 : BitVec 32 := Scalar.addi c0_i32 c8_i32
  let c1_i32 : BitVec 32 := 1#32
  ⟨c0_i32, v711, c1_i32⟩
def k0_mult1 (k0_t1 : Fin k0_t1_loop.trips) : BitVec 32 :=
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  v5392
def k0_off1 (k0_t1 : Fin k0_t1_loop.trips) (c0_i32_2968 : BitVec 32) : Fin 2 → Nat :=
  let c0_2969 : Index := 0#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5395 : BitVec 32 := Scalar.addi v5393 c0_i32_2968
  let v5396 : Index := Scalar.indexCast v5395
  ![0, v5396.toNat]
def k0_off2 (k0_t1 : Fin k0_t1_loop.trips) (c0_i32_2970 : BitVec 32) : Fin 2 → Nat :=
  let c0_2971 : Index := 0#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5398 : BitVec 32 := Scalar.addi v5394 c0_i32_2970
  let v5399 : Index := Scalar.indexCast v5398
  ![0, v5399.toNat]
def k0_off3 (k0_t1 : Fin k0_t1_loop.trips) (c0_i32_2972 : BitVec 32) : Fin 2 → Nat :=
  let c128_2973 : Index := 128#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5405 : BitVec 32 := Scalar.addi v5393 c0_i32_2972
  let v5406 : Index := Scalar.indexCast v5405
  ![128, v5406.toNat]
def k0_off4 (k0_t1 : Fin k0_t1_loop.trips) (c0_i32_2974 : BitVec 32) : Fin 2 → Nat :=
  let c1_2975 : Index := 1#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5408 : BitVec 32 := Scalar.addi v5394 c0_i32_2974
  let v5409 : Index := Scalar.indexCast v5408
  ![1, v5409.toNat]
def k0_off5 (k0_t1 : Fin k0_t1_loop.trips) (c0_i32_2976 : BitVec 32) : Fin 2 → Nat :=
  let c256_2977 : Index := 256#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5415 : BitVec 32 := Scalar.addi v5393 c0_i32_2976
  let v5416 : Index := Scalar.indexCast v5415
  ![256, v5416.toNat]
def k0_off6 (k0_t1 : Fin k0_t1_loop.trips) (c0_i32_2978 : BitVec 32) : Fin 2 → Nat :=
  let c2_2979 : Index := 2#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5418 : BitVec 32 := Scalar.addi v5394 c0_i32_2978
  let v5419 : Index := Scalar.indexCast v5418
  ![2, v5419.toNat]
def k0_off7 (k0_t1 : Fin k0_t1_loop.trips) (c0_i32_2980 : BitVec 32) : Fin 2 → Nat :=
  let c384_2981 : Index := 384#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5425 : BitVec 32 := Scalar.addi v5393 c0_i32_2980
  let v5426 : Index := Scalar.indexCast v5425
  ![384, v5426.toNat]
def k0_off8 (k0_t1 : Fin k0_t1_loop.trips) (c0_i32_2982 : BitVec 32) : Fin 2 → Nat :=
  let c3_2983 : Index := 3#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5428 : BitVec 32 := Scalar.addi v5394 c0_i32_2982
  let v5429 : Index := Scalar.indexCast v5428
  ![3, v5429.toNat]
def k0_off9 (k0_t1 : Fin k0_t1_loop.trips) (c0_i32_2984 : BitVec 32) : Fin 2 → Nat :=
  let c512_2985 : Index := 512#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5435 : BitVec 32 := Scalar.addi v5393 c0_i32_2984
  let v5436 : Index := Scalar.indexCast v5435
  ![512, v5436.toNat]
def k0_off10 (k0_t1 : Fin k0_t1_loop.trips) (c0_i32_2986 : BitVec 32) : Fin 2 → Nat :=
  let c4_2987 : Index := 4#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5438 : BitVec 32 := Scalar.addi v5394 c0_i32_2986
  let v5439 : Index := Scalar.indexCast v5438
  ![4, v5439.toNat]
def k0_off11 (k0_t1 : Fin k0_t1_loop.trips) (c0_i32_2988 : BitVec 32) : Fin 2 → Nat :=
  let c640_2989 : Index := 640#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5445 : BitVec 32 := Scalar.addi v5393 c0_i32_2988
  let v5446 : Index := Scalar.indexCast v5445
  ![640, v5446.toNat]
def k0_off12 (k0_t1 : Fin k0_t1_loop.trips) (c0_i32_2990 : BitVec 32) : Fin 2 → Nat :=
  let c5_2991 : Index := 5#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5448 : BitVec 32 := Scalar.addi v5394 c0_i32_2990
  let v5449 : Index := Scalar.indexCast v5448
  ![5, v5449.toNat]
def k0_off13 (k0_t1 : Fin k0_t1_loop.trips) (c0_i32_2992 : BitVec 32) : Fin 2 → Nat :=
  let c768_2993 : Index := 768#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5455 : BitVec 32 := Scalar.addi v5393 c0_i32_2992
  let v5456 : Index := Scalar.indexCast v5455
  ![768, v5456.toNat]
def k0_off14 (k0_t1 : Fin k0_t1_loop.trips) (c0_i32_2994 : BitVec 32) : Fin 2 → Nat :=
  let c6_2995 : Index := 6#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5458 : BitVec 32 := Scalar.addi v5394 c0_i32_2994
  let v5459 : Index := Scalar.indexCast v5458
  ![6, v5459.toNat]
def k0_off15 (k0_t1 : Fin k0_t1_loop.trips) (c0_i32_2996 : BitVec 32) : Fin 2 → Nat :=
  let c896_2997 : Index := 896#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5465 : BitVec 32 := Scalar.addi v5393 c0_i32_2996
  let v5466 : Index := Scalar.indexCast v5465
  ![896, v5466.toNat]
def k0_off16 (k0_t1 : Fin k0_t1_loop.trips) (c0_i32_2998 : BitVec 32) : Fin 2 → Nat :=
  let c7_2999 : Index := 7#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5468 : BitVec 32 := Scalar.addi v5394 c0_i32_2998
  let v5469 : Index := Scalar.indexCast v5468
  ![7, v5469.toNat]
def k0_off17 (k0_t1 : Fin k0_t1_loop.trips) (c0_i32_3000 : BitVec 32) : Fin 2 → Nat :=
  let c1024_3001 : Index := 1024#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5475 : BitVec 32 := Scalar.addi v5393 c0_i32_3000
  let v5476 : Index := Scalar.indexCast v5475
  ![1024, v5476.toNat]
def k0_off18 (k0_t1 : Fin k0_t1_loop.trips) (c0_i32_3002 : BitVec 32) : Fin 2 → Nat :=
  let c8_3003 : Index := 8#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5478 : BitVec 32 := Scalar.addi v5394 c0_i32_3002
  let v5479 : Index := Scalar.indexCast v5478
  ![8, v5479.toNat]
def k0_off19 (k0_t1 : Fin k0_t1_loop.trips) (c0_i32_3004 : BitVec 32) : Fin 2 → Nat :=
  let c1152_3005 : Index := 1152#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5485 : BitVec 32 := Scalar.addi v5393 c0_i32_3004
  let v5486 : Index := Scalar.indexCast v5485
  ![1152, v5486.toNat]
def k0_off20 (k0_t1 : Fin k0_t1_loop.trips) (c0_i32_3006 : BitVec 32) : Fin 2 → Nat :=
  let c9_3007 : Index := 9#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5488 : BitVec 32 := Scalar.addi v5394 c0_i32_3006
  let v5489 : Index := Scalar.indexCast v5488
  ![9, v5489.toNat]
def k0_off21 (k0_t1 : Fin k0_t1_loop.trips) (c0_i32_3008 : BitVec 32) : Fin 2 → Nat :=
  let c1280_3009 : Index := 1280#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5495 : BitVec 32 := Scalar.addi v5393 c0_i32_3008
  let v5496 : Index := Scalar.indexCast v5495
  ![1280, v5496.toNat]
def k0_off22 (k0_t1 : Fin k0_t1_loop.trips) (c0_i32_3010 : BitVec 32) : Fin 2 → Nat :=
  let c10_3011 : Index := 10#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5498 : BitVec 32 := Scalar.addi v5394 c0_i32_3010
  let v5499 : Index := Scalar.indexCast v5498
  ![10, v5499.toNat]
def k0_off23 (k0_t1 : Fin k0_t1_loop.trips) (c0_i32_3012 : BitVec 32) : Fin 2 → Nat :=
  let c1408_3013 : Index := 1408#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5505 : BitVec 32 := Scalar.addi v5393 c0_i32_3012
  let v5506 : Index := Scalar.indexCast v5505
  ![1408, v5506.toNat]
def k0_off24 (k0_t1 : Fin k0_t1_loop.trips) (c0_i32_3014 : BitVec 32) : Fin 2 → Nat :=
  let c11_3015 : Index := 11#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5508 : BitVec 32 := Scalar.addi v5394 c0_i32_3014
  let v5509 : Index := Scalar.indexCast v5508
  ![11, v5509.toNat]
def k0_off25 (k0_t1 : Fin k0_t1_loop.trips) (c0_i32_3016 : BitVec 32) : Fin 2 → Nat :=
  let c1536_3017 : Index := 1536#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5515 : BitVec 32 := Scalar.addi v5393 c0_i32_3016
  let v5516 : Index := Scalar.indexCast v5515
  ![1536, v5516.toNat]
def k0_off26 (k0_t1 : Fin k0_t1_loop.trips) (c0_i32_3018 : BitVec 32) : Fin 2 → Nat :=
  let c12_3019 : Index := 12#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5518 : BitVec 32 := Scalar.addi v5394 c0_i32_3018
  let v5519 : Index := Scalar.indexCast v5518
  ![12, v5519.toNat]
def k0_off27 (k0_t1 : Fin k0_t1_loop.trips) (c0_i32_3020 : BitVec 32) : Fin 2 → Nat :=
  let c1664_3021 : Index := 1664#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5525 : BitVec 32 := Scalar.addi v5393 c0_i32_3020
  let v5526 : Index := Scalar.indexCast v5525
  ![1664, v5526.toNat]
def k0_off28 (k0_t1 : Fin k0_t1_loop.trips) (c0_i32_3022 : BitVec 32) : Fin 2 → Nat :=
  let c13_3023 : Index := 13#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5528 : BitVec 32 := Scalar.addi v5394 c0_i32_3022
  let v5529 : Index := Scalar.indexCast v5528
  ![13, v5529.toNat]
def k0_off29 (k0_t1 : Fin k0_t1_loop.trips) (c0_i32_3024 : BitVec 32) : Fin 2 → Nat :=
  let c1792_3025 : Index := 1792#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5535 : BitVec 32 := Scalar.addi v5393 c0_i32_3024
  let v5536 : Index := Scalar.indexCast v5535
  ![1792, v5536.toNat]
def k0_off30 (k0_t1 : Fin k0_t1_loop.trips) (c0_i32_3026 : BitVec 32) : Fin 2 → Nat :=
  let c14_3027 : Index := 14#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5538 : BitVec 32 := Scalar.addi v5394 c0_i32_3026
  let v5539 : Index := Scalar.indexCast v5538
  ![14, v5539.toNat]
def k0_off31 (k0_t1 : Fin k0_t1_loop.trips) (c0_i32_3028 : BitVec 32) : Fin 2 → Nat :=
  let c1920_3029 : Index := 1920#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5545 : BitVec 32 := Scalar.addi v5393 c0_i32_3028
  let v5546 : Index := Scalar.indexCast v5545
  ![1920, v5546.toNat]
def k0_off32 (k0_t1 : Fin k0_t1_loop.trips) (c0_i32_3030 : BitVec 32) : Fin 2 → Nat :=
  let c15_3031 : Index := 15#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5548 : BitVec 32 := Scalar.addi v5394 c0_i32_3030
  let v5549 : Index := Scalar.indexCast v5548
  ![15, v5549.toNat]
def k0_off33 (k0_t1 : Fin k0_t1_loop.trips) (c0_i32_3032 : BitVec 32) : Fin 2 → Nat :=
  let c2048_3033 : Index := 2048#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5555 : BitVec 32 := Scalar.addi v5393 c0_i32_3032
  let v5556 : Index := Scalar.indexCast v5555
  ![2048, v5556.toNat]
def k0_off34 (k0_t1 : Fin k0_t1_loop.trips) (c0_i32_3034 : BitVec 32) : Fin 2 → Nat :=
  let c16_3035 : Index := 16#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5558 : BitVec 32 := Scalar.addi v5394 c0_i32_3034
  let v5559 : Index := Scalar.indexCast v5558
  ![16, v5559.toNat]
def k0_off35 (k0_t1 : Fin k0_t1_loop.trips) (c0_i32_3036 : BitVec 32) : Fin 2 → Nat :=
  let c2176_3037 : Index := 2176#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5565 : BitVec 32 := Scalar.addi v5393 c0_i32_3036
  let v5566 : Index := Scalar.indexCast v5565
  ![2176, v5566.toNat]
def k0_off36 (k0_t1 : Fin k0_t1_loop.trips) (c0_i32_3038 : BitVec 32) : Fin 2 → Nat :=
  let c17_3039 : Index := 17#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5568 : BitVec 32 := Scalar.addi v5394 c0_i32_3038
  let v5569 : Index := Scalar.indexCast v5568
  ![17, v5569.toNat]
def k0_off37 (k0_t1 : Fin k0_t1_loop.trips) (c0_i32_3040 : BitVec 32) : Fin 2 → Nat :=
  let c2304_3041 : Index := 2304#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5575 : BitVec 32 := Scalar.addi v5393 c0_i32_3040
  let v5576 : Index := Scalar.indexCast v5575
  ![2304, v5576.toNat]
def k0_off38 (k0_t1 : Fin k0_t1_loop.trips) (c0_i32_3042 : BitVec 32) : Fin 2 → Nat :=
  let c18_3043 : Index := 18#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5578 : BitVec 32 := Scalar.addi v5394 c0_i32_3042
  let v5579 : Index := Scalar.indexCast v5578
  ![18, v5579.toNat]
def k0_off39 (k0_t1 : Fin k0_t1_loop.trips) (c0_i32_3044 : BitVec 32) : Fin 2 → Nat :=
  let c2432_3045 : Index := 2432#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5585 : BitVec 32 := Scalar.addi v5393 c0_i32_3044
  let v5586 : Index := Scalar.indexCast v5585
  ![2432, v5586.toNat]
def k0_off40 (k0_t1 : Fin k0_t1_loop.trips) (c0_i32_3046 : BitVec 32) : Fin 2 → Nat :=
  let c19_3047 : Index := 19#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5588 : BitVec 32 := Scalar.addi v5394 c0_i32_3046
  let v5589 : Index := Scalar.indexCast v5588
  ![19, v5589.toNat]
def k0_off41 (k0_t1 : Fin k0_t1_loop.trips) (c0_i32_3048 : BitVec 32) : Fin 2 → Nat :=
  let c2560_3049 : Index := 2560#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5595 : BitVec 32 := Scalar.addi v5393 c0_i32_3048
  let v5596 : Index := Scalar.indexCast v5595
  ![2560, v5596.toNat]
def k0_off42 (k0_t1 : Fin k0_t1_loop.trips) (c0_i32_3050 : BitVec 32) : Fin 2 → Nat :=
  let c20_3051 : Index := 20#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5598 : BitVec 32 := Scalar.addi v5394 c0_i32_3050
  let v5599 : Index := Scalar.indexCast v5598
  ![20, v5599.toNat]
def k0_off43 (k0_t1 : Fin k0_t1_loop.trips) (c0_i32_3052 : BitVec 32) : Fin 2 → Nat :=
  let c2688_3053 : Index := 2688#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5605 : BitVec 32 := Scalar.addi v5393 c0_i32_3052
  let v5606 : Index := Scalar.indexCast v5605
  ![2688, v5606.toNat]
def k0_off44 (k0_t1 : Fin k0_t1_loop.trips) (c0_i32_3054 : BitVec 32) : Fin 2 → Nat :=
  let c21_3055 : Index := 21#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5608 : BitVec 32 := Scalar.addi v5394 c0_i32_3054
  let v5609 : Index := Scalar.indexCast v5608
  ![21, v5609.toNat]
def k0_off45 (k0_t1 : Fin k0_t1_loop.trips) (c0_i32_3056 : BitVec 32) : Fin 2 → Nat :=
  let c2816_3057 : Index := 2816#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5615 : BitVec 32 := Scalar.addi v5393 c0_i32_3056
  let v5616 : Index := Scalar.indexCast v5615
  ![2816, v5616.toNat]
def k0_off46 (k0_t1 : Fin k0_t1_loop.trips) (c0_i32_3058 : BitVec 32) : Fin 2 → Nat :=
  let c22_3059 : Index := 22#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5618 : BitVec 32 := Scalar.addi v5394 c0_i32_3058
  let v5619 : Index := Scalar.indexCast v5618
  ![22, v5619.toNat]
def k0_off47 (k0_t1 : Fin k0_t1_loop.trips) (c0_i32_3060 : BitVec 32) : Fin 2 → Nat :=
  let c2944_3061 : Index := 2944#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5625 : BitVec 32 := Scalar.addi v5393 c0_i32_3060
  let v5626 : Index := Scalar.indexCast v5625
  ![2944, v5626.toNat]
def k0_off48 (k0_t1 : Fin k0_t1_loop.trips) (c0_i32_3062 : BitVec 32) : Fin 2 → Nat :=
  let c23_3063 : Index := 23#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5628 : BitVec 32 := Scalar.addi v5394 c0_i32_3062
  let v5629 : Index := Scalar.indexCast v5628
  ![23, v5629.toNat]
def k0_off49 (k0_t1 : Fin k0_t1_loop.trips) (c0_i32_3064 : BitVec 32) : Fin 2 → Nat :=
  let c3072_3065 : Index := 3072#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5635 : BitVec 32 := Scalar.addi v5393 c0_i32_3064
  let v5636 : Index := Scalar.indexCast v5635
  ![3072, v5636.toNat]
def k0_off50 (k0_t1 : Fin k0_t1_loop.trips) (c0_i32_3066 : BitVec 32) : Fin 2 → Nat :=
  let c24_3067 : Index := 24#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5638 : BitVec 32 := Scalar.addi v5394 c0_i32_3066
  let v5639 : Index := Scalar.indexCast v5638
  ![24, v5639.toNat]
def k0_off51 (k0_t1 : Fin k0_t1_loop.trips) (c0_i32_3068 : BitVec 32) : Fin 2 → Nat :=
  let c3200_3069 : Index := 3200#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5645 : BitVec 32 := Scalar.addi v5393 c0_i32_3068
  let v5646 : Index := Scalar.indexCast v5645
  ![3200, v5646.toNat]
def k0_off52 (k0_t1 : Fin k0_t1_loop.trips) (c0_i32_3070 : BitVec 32) : Fin 2 → Nat :=
  let c25_3071 : Index := 25#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5648 : BitVec 32 := Scalar.addi v5394 c0_i32_3070
  let v5649 : Index := Scalar.indexCast v5648
  ![25, v5649.toNat]
def k0_off53 (k0_t1 : Fin k0_t1_loop.trips) (c0_i32_3072 : BitVec 32) : Fin 2 → Nat :=
  let c3328_3073 : Index := 3328#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5655 : BitVec 32 := Scalar.addi v5393 c0_i32_3072
  let v5656 : Index := Scalar.indexCast v5655
  ![3328, v5656.toNat]
def k0_off54 (k0_t1 : Fin k0_t1_loop.trips) (c0_i32_3074 : BitVec 32) : Fin 2 → Nat :=
  let c26_3075 : Index := 26#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5658 : BitVec 32 := Scalar.addi v5394 c0_i32_3074
  let v5659 : Index := Scalar.indexCast v5658
  ![26, v5659.toNat]
def k0_off55 (k0_t1 : Fin k0_t1_loop.trips) (c0_i32_3076 : BitVec 32) : Fin 2 → Nat :=
  let c3456_3077 : Index := 3456#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5665 : BitVec 32 := Scalar.addi v5393 c0_i32_3076
  let v5666 : Index := Scalar.indexCast v5665
  ![3456, v5666.toNat]
def k0_off56 (k0_t1 : Fin k0_t1_loop.trips) (c0_i32_3078 : BitVec 32) : Fin 2 → Nat :=
  let c27_3079 : Index := 27#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5668 : BitVec 32 := Scalar.addi v5394 c0_i32_3078
  let v5669 : Index := Scalar.indexCast v5668
  ![27, v5669.toNat]
def k0_off57 (k0_t1 : Fin k0_t1_loop.trips) (c0_i32_3080 : BitVec 32) : Fin 2 → Nat :=
  let c3584_3081 : Index := 3584#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5675 : BitVec 32 := Scalar.addi v5393 c0_i32_3080
  let v5676 : Index := Scalar.indexCast v5675
  ![3584, v5676.toNat]
def k0_off58 (k0_t1 : Fin k0_t1_loop.trips) (c0_i32_3082 : BitVec 32) : Fin 2 → Nat :=
  let c28_3083 : Index := 28#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5678 : BitVec 32 := Scalar.addi v5394 c0_i32_3082
  let v5679 : Index := Scalar.indexCast v5678
  ![28, v5679.toNat]
def k0_off59 (k0_t1 : Fin k0_t1_loop.trips) (c0_i32_3084 : BitVec 32) : Fin 2 → Nat :=
  let c3712_3085 : Index := 3712#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5685 : BitVec 32 := Scalar.addi v5393 c0_i32_3084
  let v5686 : Index := Scalar.indexCast v5685
  ![3712, v5686.toNat]
def k0_off60 (k0_t1 : Fin k0_t1_loop.trips) (c0_i32_3086 : BitVec 32) : Fin 2 → Nat :=
  let c29_3087 : Index := 29#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5688 : BitVec 32 := Scalar.addi v5394 c0_i32_3086
  let v5689 : Index := Scalar.indexCast v5688
  ![29, v5689.toNat]
def k0_off61 (k0_t1 : Fin k0_t1_loop.trips) (c0_i32_3088 : BitVec 32) : Fin 2 → Nat :=
  let c3840_3089 : Index := 3840#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5695 : BitVec 32 := Scalar.addi v5393 c0_i32_3088
  let v5696 : Index := Scalar.indexCast v5695
  ![3840, v5696.toNat]
def k0_off62 (k0_t1 : Fin k0_t1_loop.trips) (c0_i32_3090 : BitVec 32) : Fin 2 → Nat :=
  let c30_3091 : Index := 30#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5698 : BitVec 32 := Scalar.addi v5394 c0_i32_3090
  let v5699 : Index := Scalar.indexCast v5698
  ![30, v5699.toNat]
def k0_off63 (k0_t1 : Fin k0_t1_loop.trips) (c0_i32_3092 : BitVec 32) : Fin 2 → Nat :=
  let c3968_3093 : Index := 3968#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5705 : BitVec 32 := Scalar.addi v5393 c0_i32_3092
  let v5706 : Index := Scalar.indexCast v5705
  ![3968, v5706.toNat]
def k0_off64 (k0_t1 : Fin k0_t1_loop.trips) (c0_i32_3094 : BitVec 32) : Fin 2 → Nat :=
  let c31_3095 : Index := 31#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5708 : BitVec 32 := Scalar.addi v5394 c0_i32_3094
  let v5709 : Index := Scalar.indexCast v5708
  ![31, v5709.toNat]
def k0_off65 (k0_t1 : Fin k0_t1_loop.trips) (c0_i32_3096 : BitVec 32) : Fin 2 → Nat :=
  let c4096_3097 : Index := 4096#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5715 : BitVec 32 := Scalar.addi v5393 c0_i32_3096
  let v5716 : Index := Scalar.indexCast v5715
  ![4096, v5716.toNat]
def k0_off66 (k0_t1 : Fin k0_t1_loop.trips) (c0_i32_3098 : BitVec 32) : Fin 2 → Nat :=
  let c32_3099 : Index := 32#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5718 : BitVec 32 := Scalar.addi v5394 c0_i32_3098
  let v5719 : Index := Scalar.indexCast v5718
  ![32, v5719.toNat]
def k0_off67 (k0_t1 : Fin k0_t1_loop.trips) (c0_i32_3100 : BitVec 32) : Fin 2 → Nat :=
  let c4224_3101 : Index := 4224#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5725 : BitVec 32 := Scalar.addi v5393 c0_i32_3100
  let v5726 : Index := Scalar.indexCast v5725
  ![4224, v5726.toNat]
def k0_off68 (k0_t1 : Fin k0_t1_loop.trips) (c0_i32_3102 : BitVec 32) : Fin 2 → Nat :=
  let c33 : Index := 33#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5728 : BitVec 32 := Scalar.addi v5394 c0_i32_3102
  let v5729 : Index := Scalar.indexCast v5728
  ![33, v5729.toNat]
def k0_off69 (k0_t1 : Fin k0_t1_loop.trips) (c0_i32_3103 : BitVec 32) : Fin 2 → Nat :=
  let c4352_3104 : Index := 4352#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5735 : BitVec 32 := Scalar.addi v5393 c0_i32_3103
  let v5736 : Index := Scalar.indexCast v5735
  ![4352, v5736.toNat]
def k0_off70 (k0_t1 : Fin k0_t1_loop.trips) (c0_i32_3105 : BitVec 32) : Fin 2 → Nat :=
  let c34 : Index := 34#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5738 : BitVec 32 := Scalar.addi v5394 c0_i32_3105
  let v5739 : Index := Scalar.indexCast v5738
  ![34, v5739.toNat]
def k0_off71 (k0_t1 : Fin k0_t1_loop.trips) (c0_i32_3106 : BitVec 32) : Fin 2 → Nat :=
  let c4480_3107 : Index := 4480#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5745 : BitVec 32 := Scalar.addi v5393 c0_i32_3106
  let v5746 : Index := Scalar.indexCast v5745
  ![4480, v5746.toNat]
def k0_off72 (k0_t1 : Fin k0_t1_loop.trips) (c0_i32_3108 : BitVec 32) : Fin 2 → Nat :=
  let c35 : Index := 35#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5748 : BitVec 32 := Scalar.addi v5394 c0_i32_3108
  let v5749 : Index := Scalar.indexCast v5748
  ![35, v5749.toNat]
def k0_off73 (k0_t1 : Fin k0_t1_loop.trips) (c0_i32_3109 : BitVec 32) : Fin 2 → Nat :=
  let c4608_3110 : Index := 4608#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5755 : BitVec 32 := Scalar.addi v5393 c0_i32_3109
  let v5756 : Index := Scalar.indexCast v5755
  ![4608, v5756.toNat]
def k0_off74 (k0_t1 : Fin k0_t1_loop.trips) (c0_i32_3111 : BitVec 32) : Fin 2 → Nat :=
  let c36 : Index := 36#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5758 : BitVec 32 := Scalar.addi v5394 c0_i32_3111
  let v5759 : Index := Scalar.indexCast v5758
  ![36, v5759.toNat]
def k0_off75 (k0_t1 : Fin k0_t1_loop.trips) (c0_i32_3112 : BitVec 32) : Fin 2 → Nat :=
  let c4736_3113 : Index := 4736#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5765 : BitVec 32 := Scalar.addi v5393 c0_i32_3112
  let v5766 : Index := Scalar.indexCast v5765
  ![4736, v5766.toNat]
def k0_off76 (k0_t1 : Fin k0_t1_loop.trips) (c0_i32_3114 : BitVec 32) : Fin 2 → Nat :=
  let c37 : Index := 37#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5768 : BitVec 32 := Scalar.addi v5394 c0_i32_3114
  let v5769 : Index := Scalar.indexCast v5768
  ![37, v5769.toNat]
def k0_off77 (k0_t1 : Fin k0_t1_loop.trips) (c0_i32_3115 : BitVec 32) : Fin 2 → Nat :=
  let c4864_3116 : Index := 4864#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5775 : BitVec 32 := Scalar.addi v5393 c0_i32_3115
  let v5776 : Index := Scalar.indexCast v5775
  ![4864, v5776.toNat]
def k0_off78 (k0_t1 : Fin k0_t1_loop.trips) (c0_i32_3117 : BitVec 32) : Fin 2 → Nat :=
  let c38 : Index := 38#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5778 : BitVec 32 := Scalar.addi v5394 c0_i32_3117
  let v5779 : Index := Scalar.indexCast v5778
  ![38, v5779.toNat]
def k0_off79 (k0_t1 : Fin k0_t1_loop.trips) (c0_i32_3118 : BitVec 32) : Fin 2 → Nat :=
  let c4992_3119 : Index := 4992#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5785 : BitVec 32 := Scalar.addi v5393 c0_i32_3118
  let v5786 : Index := Scalar.indexCast v5785
  ![4992, v5786.toNat]
def k0_off80 (k0_t1 : Fin k0_t1_loop.trips) (c0_i32_3120 : BitVec 32) : Fin 2 → Nat :=
  let c39 : Index := 39#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5788 : BitVec 32 := Scalar.addi v5394 c0_i32_3120
  let v5789 : Index := Scalar.indexCast v5788
  ![39, v5789.toNat]
def k0_off81 (k0_t1 : Fin k0_t1_loop.trips) (c0_i32_3121 : BitVec 32) : Fin 2 → Nat :=
  let c5120_3122 : Index := 5120#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5795 : BitVec 32 := Scalar.addi v5393 c0_i32_3121
  let v5796 : Index := Scalar.indexCast v5795
  ![5120, v5796.toNat]
def k0_off82 (k0_t1 : Fin k0_t1_loop.trips) (c0_i32_3123 : BitVec 32) : Fin 2 → Nat :=
  let c40 : Index := 40#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5798 : BitVec 32 := Scalar.addi v5394 c0_i32_3123
  let v5799 : Index := Scalar.indexCast v5798
  ![40, v5799.toNat]
def k0_off83 (k0_t1 : Fin k0_t1_loop.trips) (c0_i32_3124 : BitVec 32) : Fin 2 → Nat :=
  let c5248_3125 : Index := 5248#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5805 : BitVec 32 := Scalar.addi v5393 c0_i32_3124
  let v5806 : Index := Scalar.indexCast v5805
  ![5248, v5806.toNat]
def k0_off84 (k0_t1 : Fin k0_t1_loop.trips) (c0_i32_3126 : BitVec 32) : Fin 2 → Nat :=
  let c41 : Index := 41#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5808 : BitVec 32 := Scalar.addi v5394 c0_i32_3126
  let v5809 : Index := Scalar.indexCast v5808
  ![41, v5809.toNat]
def k0_off85 (k0_t1 : Fin k0_t1_loop.trips) (c0_i32_3127 : BitVec 32) : Fin 2 → Nat :=
  let c5376_3128 : Index := 5376#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5815 : BitVec 32 := Scalar.addi v5393 c0_i32_3127
  let v5816 : Index := Scalar.indexCast v5815
  ![5376, v5816.toNat]
def k0_off86 (k0_t1 : Fin k0_t1_loop.trips) (c0_i32_3129 : BitVec 32) : Fin 2 → Nat :=
  let c42 : Index := 42#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5818 : BitVec 32 := Scalar.addi v5394 c0_i32_3129
  let v5819 : Index := Scalar.indexCast v5818
  ![42, v5819.toNat]
def k0_off87 (k0_t1 : Fin k0_t1_loop.trips) (c0_i32_3130 : BitVec 32) : Fin 2 → Nat :=
  let c5504_3131 : Index := 5504#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5825 : BitVec 32 := Scalar.addi v5393 c0_i32_3130
  let v5826 : Index := Scalar.indexCast v5825
  ![5504, v5826.toNat]
def k0_off88 (k0_t1 : Fin k0_t1_loop.trips) (c0_i32_3132 : BitVec 32) : Fin 2 → Nat :=
  let c43 : Index := 43#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5828 : BitVec 32 := Scalar.addi v5394 c0_i32_3132
  let v5829 : Index := Scalar.indexCast v5828
  ![43, v5829.toNat]
def k0_off89 (k0_t1 : Fin k0_t1_loop.trips) (c0_i32_3133 : BitVec 32) : Fin 2 → Nat :=
  let c5632_3134 : Index := 5632#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5835 : BitVec 32 := Scalar.addi v5393 c0_i32_3133
  let v5836 : Index := Scalar.indexCast v5835
  ![5632, v5836.toNat]
def k0_off90 (k0_t1 : Fin k0_t1_loop.trips) (c0_i32_3135 : BitVec 32) : Fin 2 → Nat :=
  let c44 : Index := 44#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5838 : BitVec 32 := Scalar.addi v5394 c0_i32_3135
  let v5839 : Index := Scalar.indexCast v5838
  ![44, v5839.toNat]
def k0_off91 (k0_t1 : Fin k0_t1_loop.trips) (c0_i32_3136 : BitVec 32) : Fin 2 → Nat :=
  let c5760_3137 : Index := 5760#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5845 : BitVec 32 := Scalar.addi v5393 c0_i32_3136
  let v5846 : Index := Scalar.indexCast v5845
  ![5760, v5846.toNat]
def k0_off92 (k0_t1 : Fin k0_t1_loop.trips) (c0_i32_3138 : BitVec 32) : Fin 2 → Nat :=
  let c45 : Index := 45#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5848 : BitVec 32 := Scalar.addi v5394 c0_i32_3138
  let v5849 : Index := Scalar.indexCast v5848
  ![45, v5849.toNat]
def k0_off93 (k0_t1 : Fin k0_t1_loop.trips) (c0_i32_3139 : BitVec 32) : Fin 2 → Nat :=
  let c5888_3140 : Index := 5888#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5855 : BitVec 32 := Scalar.addi v5393 c0_i32_3139
  let v5856 : Index := Scalar.indexCast v5855
  ![5888, v5856.toNat]
def k0_off94 (k0_t1 : Fin k0_t1_loop.trips) (c0_i32_3141 : BitVec 32) : Fin 2 → Nat :=
  let c46 : Index := 46#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5858 : BitVec 32 := Scalar.addi v5394 c0_i32_3141
  let v5859 : Index := Scalar.indexCast v5858
  ![46, v5859.toNat]
def k0_off95 (k0_t1 : Fin k0_t1_loop.trips) (c0_i32_3142 : BitVec 32) : Fin 2 → Nat :=
  let c6016_3143 : Index := 6016#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5865 : BitVec 32 := Scalar.addi v5393 c0_i32_3142
  let v5866 : Index := Scalar.indexCast v5865
  ![6016, v5866.toNat]
def k0_off96 (k0_t1 : Fin k0_t1_loop.trips) (c0_i32_3144 : BitVec 32) : Fin 2 → Nat :=
  let c47 : Index := 47#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5868 : BitVec 32 := Scalar.addi v5394 c0_i32_3144
  let v5869 : Index := Scalar.indexCast v5868
  ![47, v5869.toNat]
def k0_off97 (k0_t1 : Fin k0_t1_loop.trips) (c0_i32_3145 : BitVec 32) : Fin 2 → Nat :=
  let c6144_3146 : Index := 6144#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5875 : BitVec 32 := Scalar.addi v5393 c0_i32_3145
  let v5876 : Index := Scalar.indexCast v5875
  ![6144, v5876.toNat]
def k0_off98 (k0_t1 : Fin k0_t1_loop.trips) (c0_i32_3147 : BitVec 32) : Fin 2 → Nat :=
  let c48 : Index := 48#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5878 : BitVec 32 := Scalar.addi v5394 c0_i32_3147
  let v5879 : Index := Scalar.indexCast v5878
  ![48, v5879.toNat]
def k0_off99 (k0_t1 : Fin k0_t1_loop.trips) (c0_i32_3148 : BitVec 32) : Fin 2 → Nat :=
  let c6272_3149 : Index := 6272#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5885 : BitVec 32 := Scalar.addi v5393 c0_i32_3148
  let v5886 : Index := Scalar.indexCast v5885
  ![6272, v5886.toNat]
def k0_off100 (k0_t1 : Fin k0_t1_loop.trips) (c0_i32_3150 : BitVec 32) : Fin 2 → Nat :=
  let c49 : Index := 49#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5888 : BitVec 32 := Scalar.addi v5394 c0_i32_3150
  let v5889 : Index := Scalar.indexCast v5888
  ![49, v5889.toNat]
def k0_off101 (k0_t1 : Fin k0_t1_loop.trips) (c0_i32_3151 : BitVec 32) : Fin 2 → Nat :=
  let c6400_3152 : Index := 6400#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5895 : BitVec 32 := Scalar.addi v5393 c0_i32_3151
  let v5896 : Index := Scalar.indexCast v5895
  ![6400, v5896.toNat]
def k0_off102 (k0_t1 : Fin k0_t1_loop.trips) (c0_i32_3153 : BitVec 32) : Fin 2 → Nat :=
  let c50 : Index := 50#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5898 : BitVec 32 := Scalar.addi v5394 c0_i32_3153
  let v5899 : Index := Scalar.indexCast v5898
  ![50, v5899.toNat]
def k0_off103 (k0_t1 : Fin k0_t1_loop.trips) (c0_i32_3154 : BitVec 32) : Fin 2 → Nat :=
  let c6528_3155 : Index := 6528#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5905 : BitVec 32 := Scalar.addi v5393 c0_i32_3154
  let v5906 : Index := Scalar.indexCast v5905
  ![6528, v5906.toNat]
def k0_off104 (k0_t1 : Fin k0_t1_loop.trips) (c0_i32_3156 : BitVec 32) : Fin 2 → Nat :=
  let c51 : Index := 51#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5908 : BitVec 32 := Scalar.addi v5394 c0_i32_3156
  let v5909 : Index := Scalar.indexCast v5908
  ![51, v5909.toNat]
def k0_off105 (k0_t1 : Fin k0_t1_loop.trips) (c0_i32_3157 : BitVec 32) : Fin 2 → Nat :=
  let c6656_3158 : Index := 6656#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5915 : BitVec 32 := Scalar.addi v5393 c0_i32_3157
  let v5916 : Index := Scalar.indexCast v5915
  ![6656, v5916.toNat]
def k0_off106 (k0_t1 : Fin k0_t1_loop.trips) (c0_i32_3159 : BitVec 32) : Fin 2 → Nat :=
  let c52 : Index := 52#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5918 : BitVec 32 := Scalar.addi v5394 c0_i32_3159
  let v5919 : Index := Scalar.indexCast v5918
  ![52, v5919.toNat]
def k0_off107 (k0_t1 : Fin k0_t1_loop.trips) (c0_i32_3160 : BitVec 32) : Fin 2 → Nat :=
  let c6784_3161 : Index := 6784#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5925 : BitVec 32 := Scalar.addi v5393 c0_i32_3160
  let v5926 : Index := Scalar.indexCast v5925
  ![6784, v5926.toNat]
def k0_off108 (k0_t1 : Fin k0_t1_loop.trips) (c0_i32_3162 : BitVec 32) : Fin 2 → Nat :=
  let c53 : Index := 53#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5928 : BitVec 32 := Scalar.addi v5394 c0_i32_3162
  let v5929 : Index := Scalar.indexCast v5928
  ![53, v5929.toNat]
def k0_off109 (k0_t1 : Fin k0_t1_loop.trips) (c0_i32_3163 : BitVec 32) : Fin 2 → Nat :=
  let c6912_3164 : Index := 6912#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5935 : BitVec 32 := Scalar.addi v5393 c0_i32_3163
  let v5936 : Index := Scalar.indexCast v5935
  ![6912, v5936.toNat]
def k0_off110 (k0_t1 : Fin k0_t1_loop.trips) (c0_i32_3165 : BitVec 32) : Fin 2 → Nat :=
  let c54 : Index := 54#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5938 : BitVec 32 := Scalar.addi v5394 c0_i32_3165
  let v5939 : Index := Scalar.indexCast v5938
  ![54, v5939.toNat]
def k0_off111 (k0_t1 : Fin k0_t1_loop.trips) (c0_i32_3166 : BitVec 32) : Fin 2 → Nat :=
  let c7040_3167 : Index := 7040#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5945 : BitVec 32 := Scalar.addi v5393 c0_i32_3166
  let v5946 : Index := Scalar.indexCast v5945
  ![7040, v5946.toNat]
def k0_off112 (k0_t1 : Fin k0_t1_loop.trips) (c0_i32_3168 : BitVec 32) : Fin 2 → Nat :=
  let c55 : Index := 55#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5948 : BitVec 32 := Scalar.addi v5394 c0_i32_3168
  let v5949 : Index := Scalar.indexCast v5948
  ![55, v5949.toNat]
def k0_off113 (k0_t1 : Fin k0_t1_loop.trips) (c0_i32_3169 : BitVec 32) : Fin 2 → Nat :=
  let c7168_3170 : Index := 7168#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5955 : BitVec 32 := Scalar.addi v5393 c0_i32_3169
  let v5956 : Index := Scalar.indexCast v5955
  ![7168, v5956.toNat]
def k0_off114 (k0_t1 : Fin k0_t1_loop.trips) (c0_i32_3171 : BitVec 32) : Fin 2 → Nat :=
  let c56 : Index := 56#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5958 : BitVec 32 := Scalar.addi v5394 c0_i32_3171
  let v5959 : Index := Scalar.indexCast v5958
  ![56, v5959.toNat]
def k0_off115 (k0_t1 : Fin k0_t1_loop.trips) (c0_i32_3172 : BitVec 32) : Fin 2 → Nat :=
  let c7296_3173 : Index := 7296#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5965 : BitVec 32 := Scalar.addi v5393 c0_i32_3172
  let v5966 : Index := Scalar.indexCast v5965
  ![7296, v5966.toNat]
def k0_off116 (k0_t1 : Fin k0_t1_loop.trips) (c0_i32_3174 : BitVec 32) : Fin 2 → Nat :=
  let c57 : Index := 57#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5968 : BitVec 32 := Scalar.addi v5394 c0_i32_3174
  let v5969 : Index := Scalar.indexCast v5968
  ![57, v5969.toNat]
def k0_off117 (k0_t1 : Fin k0_t1_loop.trips) (c0_i32_3175 : BitVec 32) : Fin 2 → Nat :=
  let c7424_3176 : Index := 7424#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5975 : BitVec 32 := Scalar.addi v5393 c0_i32_3175
  let v5976 : Index := Scalar.indexCast v5975
  ![7424, v5976.toNat]
def k0_off118 (k0_t1 : Fin k0_t1_loop.trips) (c0_i32_3177 : BitVec 32) : Fin 2 → Nat :=
  let c58 : Index := 58#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5978 : BitVec 32 := Scalar.addi v5394 c0_i32_3177
  let v5979 : Index := Scalar.indexCast v5978
  ![58, v5979.toNat]
def k0_off119 (k0_t1 : Fin k0_t1_loop.trips) (c0_i32_3178 : BitVec 32) : Fin 2 → Nat :=
  let c7552_3179 : Index := 7552#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5985 : BitVec 32 := Scalar.addi v5393 c0_i32_3178
  let v5986 : Index := Scalar.indexCast v5985
  ![7552, v5986.toNat]
def k0_off120 (k0_t1 : Fin k0_t1_loop.trips) (c0_i32_3180 : BitVec 32) : Fin 2 → Nat :=
  let c59 : Index := 59#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5988 : BitVec 32 := Scalar.addi v5394 c0_i32_3180
  let v5989 : Index := Scalar.indexCast v5988
  ![59, v5989.toNat]
def k0_off121 (k0_t1 : Fin k0_t1_loop.trips) (c0_i32_3181 : BitVec 32) : Fin 2 → Nat :=
  let c7680_3182 : Index := 7680#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v5995 : BitVec 32 := Scalar.addi v5393 c0_i32_3181
  let v5996 : Index := Scalar.indexCast v5995
  ![7680, v5996.toNat]
def k0_off122 (k0_t1 : Fin k0_t1_loop.trips) (c0_i32_3183 : BitVec 32) : Fin 2 → Nat :=
  let c60 : Index := 60#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v5998 : BitVec 32 := Scalar.addi v5394 c0_i32_3183
  let v5999 : Index := Scalar.indexCast v5998
  ![60, v5999.toNat]
def k0_off123 (k0_t1 : Fin k0_t1_loop.trips) (c0_i32_3184 : BitVec 32) : Fin 2 → Nat :=
  let c7808_3185 : Index := 7808#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v6005 : BitVec 32 := Scalar.addi v5393 c0_i32_3184
  let v6006 : Index := Scalar.indexCast v6005
  ![7808, v6006.toNat]
def k0_off124 (k0_t1 : Fin k0_t1_loop.trips) (c0_i32_3186 : BitVec 32) : Fin 2 → Nat :=
  let c61 : Index := 61#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v6008 : BitVec 32 := Scalar.addi v5394 c0_i32_3186
  let v6009 : Index := Scalar.indexCast v6008
  ![61, v6009.toNat]
def k0_off125 (k0_t1 : Fin k0_t1_loop.trips) (c0_i32_3187 : BitVec 32) : Fin 2 → Nat :=
  let c7936_3188 : Index := 7936#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v6015 : BitVec 32 := Scalar.addi v5393 c0_i32_3187
  let v6016 : Index := Scalar.indexCast v6015
  ![7936, v6016.toNat]
def k0_off126 (k0_t1 : Fin k0_t1_loop.trips) (c0_i32_3189 : BitVec 32) : Fin 2 → Nat :=
  let c62 : Index := 62#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v6018 : BitVec 32 := Scalar.addi v5394 c0_i32_3189
  let v6019 : Index := Scalar.indexCast v6018
  ![62, v6019.toNat]
def k0_off127 (k0_t1 : Fin k0_t1_loop.trips) (c0_i32_3190 : BitVec 32) : Fin 2 → Nat :=
  let c8064_3191 : Index := 8064#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v6025 : BitVec 32 := Scalar.addi v5393 c0_i32_3190
  let v6026 : Index := Scalar.indexCast v6025
  ![8064, v6026.toNat]
def k0_off128 (k0_t1 : Fin k0_t1_loop.trips) (c0_i32_3192 : BitVec 32) : Fin 2 → Nat :=
  let c63 : Index := 63#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c2_i32_2967 : BitVec 32 := 2#32
  let v5394 : BitVec 32 := Scalar.muli v5391 c2_i32_2967
  let v6028 : BitVec 32 := Scalar.addi v5394 c0_i32_3192
  let v6029 : Index := Scalar.indexCast v6028
  ![63, v6029.toNat]
def k0_off129 (k0_t1 : Fin k0_t1_loop.trips) : Fin 3 → Nat :=
  let c0_3451 : Index := 0#32
  let c0_3452 : Index := 0#32
  let c0_i32_2966 : BitVec 32 := 0#32
  let c0_i32 : BitVec 32 := 0#32
  let c1_i32 : BitVec 32 := 1#32
  let arg22 : BitVec 32 := Scf.iv c0_i32 c1_i32 k0_t1
  let c1_i32_2965 : BitVec 32 := 1#32
  let v5390 : BitVec 32 := Scalar.muli arg22 c1_i32_2965
  let v5391 : BitVec 32 := Scalar.addi c0_i32_2966 v5390
  let c256_i32 : BitVec 32 := 256#32
  let v5392 : BitVec 32 := Scalar.muli v5391 c256_i32
  let v5393 : BitVec 32 := v5392
  let v6680 : Index := Scalar.indexCast v5393
  ![0, 0, v6680.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x384 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x384x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x64x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x64x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x64x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x384x2048 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x16x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S3x384x8192 : Shape := ⟨3, ![3, 384, 8192]⟩
abbrev S3x384x64 : Shape := ⟨3, ![3, 384, 64]⟩
abbrev S8192x2048 : Shape := ⟨2, ![8192, 2048]⟩
abbrev S64x16 : Shape := ⟨2, ![64, 16]⟩
abbrev S3x384x2048 : Shape := ⟨3, ![3, 384, 2048]⟩
abbrev S2048 : Shape := ⟨1, ![2048]⟩
abbrev S2048x3072 : Shape := ⟨2, ![2048, 3072]⟩
abbrev S16x24 : Shape := ⟨2, ![16, 24]⟩
abbrev S3x384 : Shape := ⟨2, ![3, 384]⟩
abbrev S32 : Shape := ⟨1, ![32]⟩
abbrev S253 : Shape := ⟨1, ![253]⟩
abbrev S_ : Shape := ⟨0, ![]⟩
abbrev S3x384x32x64 : Shape := ⟨4, ![3, 384, 32, 64]⟩
abbrev S3x384x8x64 : Shape := ⟨4, ![3, 384, 8, 64]⟩
abbrev S3x384x16 : Shape := ⟨3, ![3, 384, 16]⟩
abbrev S3x384x64x128 : Shape := ⟨4, ![3, 384, 64, 128]⟩
abbrev S3x384x64x1 : Shape := ⟨4, ![3, 384, 64, 1]⟩
abbrev S64x128x16x128 : Shape := ⟨4, ![64, 128, 16, 128]⟩
abbrev S64x1x16x1 : Shape := ⟨4, ![64, 1, 16, 1]⟩
abbrev S3x384x1 : Shape := ⟨3, ![3, 384, 1]⟩
abbrev S1x1x2048 : Shape := ⟨3, ![1, 1, 2048]⟩
abbrev S3x384x16x128 : Shape := ⟨4, ![3, 384, 16, 128]⟩
abbrev S3x384x16x1 : Shape := ⟨4, ![3, 384, 16, 1]⟩
abbrev S1x1x1x253 : Shape := ⟨4, ![1, 1, 1, 253]⟩
abbrev S3x384x16x253 : Shape := ⟨4, ![3, 384, 16, 253]⟩
abbrev S16x128x24x128 : Shape := ⟨4, ![16, 128, 24, 128]⟩
abbrev S16x1x24x1 : Shape := ⟨4, ![16, 1, 24, 1]⟩
abbrev S3x384x3072 : Shape := ⟨3, ![3, 384, 3072]⟩
abbrev S3x384x8x6x64 : Shape := ⟨5, ![3, 384, 8, 6, 64]⟩
abbrev S3x384x8x5x64 : Shape := ⟨5, ![3, 384, 8, 5, 64]⟩
abbrev S3x384x8x1x64 : Shape := ⟨5, ![3, 384, 8, 1, 64]⟩
abbrev S1x1x32 : Shape := ⟨3, ![1, 1, 32]⟩
abbrev S3x384x32 : Shape := ⟨3, ![3, 384, 32]⟩
abbrev S3x384x1x1x32 : Shape := ⟨5, ![3, 384, 1, 1, 32]⟩
abbrev S3x384x8x5x32 : Shape := ⟨5, ![3, 384, 8, 5, 32]⟩
abbrev S3x384x8x4x64 : Shape := ⟨5, ![3, 384, 8, 4, 64]⟩

abbrev nBuf : Space → Nat
  | .hbm => 24
  | .vmem => 17
  | .smem => 0
  | _ => 0

abbrev bufTy : (tb : Table) → Fin (tcTables nBuf tb) → BufTy
  | .hbm, ⟨0, _⟩ => ⟨S3x384x8192, .fp8e4m3⟩
  | .hbm, ⟨1, _⟩ => ⟨S3x384x64, .f32⟩
  | .hbm, ⟨2, _⟩ => ⟨S8192x2048, .fp8e4m3⟩
  | .hbm, ⟨3, _⟩ => ⟨S64x16, .f32⟩
  | .hbm, ⟨4, _⟩ => ⟨S3x384x2048, .bf16⟩
  | .hbm, ⟨5, _⟩ => ⟨S2048, .f32⟩
  | .hbm, ⟨6, _⟩ => ⟨S2048x3072, .fp8e4m3⟩
  | .hbm, ⟨7, _⟩ => ⟨S16x24, .f32⟩
  | .hbm, ⟨8, _⟩ => ⟨S3x384, .i32⟩
  | .hbm, ⟨9, _⟩ => ⟨S32, .f32⟩
  | .hbm, ⟨10, _⟩ => ⟨S253, .i32⟩
  | .hbm, ⟨11, _⟩ => ⟨S_, .i32⟩
  | .hbm, ⟨12, _⟩ => ⟨S253, .i32⟩
  | .hbm, ⟨13, _⟩ => ⟨S253, .i32⟩
  | .hbm, ⟨14, _⟩ => ⟨S253, .f32⟩
  | .hbm, ⟨15, _⟩ => ⟨S_, .f32⟩
  | .hbm, ⟨16, _⟩ => ⟨S253, .f32⟩
  | .hbm, ⟨17, _⟩ => ⟨S253, .f32⟩
  | .hbm, ⟨18, _⟩ => ⟨S3x384x2048, .bf16⟩
  | .hbm, ⟨19, _⟩ => ⟨S3x384x32x64, .bf16⟩
  | .hbm, ⟨20, _⟩ => ⟨S3x384x8x64, .bf16⟩
  | .hbm, ⟨21, _⟩ => ⟨S3x384x8x64, .bf16⟩
  | .hbm, ⟨22, _⟩ => ⟨S3x384x2048, .fp8e4m3⟩
  | .hbm, ⟨23, _⟩ => ⟨S3x384x16, .f32⟩
  | .local _ .vmem, ⟨0, _⟩ => ⟨S3x384x8192, .fp8e4m3⟩
  | .local _ .vmem, ⟨1, _⟩ => ⟨S3x384x64, .f32⟩
  | .local _ .vmem, ⟨2, _⟩ => ⟨S8192x2048, .fp8e4m3⟩
  | .local _ .vmem, ⟨3, _⟩ => ⟨S64x16, .f32⟩
  | .local _ .vmem, ⟨4, _⟩ => ⟨S3x384x2048, .bf16⟩
  | .local _ .vmem, ⟨5, _⟩ => ⟨S2048, .f32⟩
  | .local _ .vmem, ⟨6, _⟩ => ⟨S2048x3072, .fp8e4m3⟩
  | .local _ .vmem, ⟨7, _⟩ => ⟨S16x24, .f32⟩
  | .local _ .vmem, ⟨8, _⟩ => ⟨S3x384, .i32⟩
  | .local _ .vmem, ⟨9, _⟩ => ⟨S32, .f32⟩
  | .local _ .vmem, ⟨10, _⟩ => ⟨S253, .f32⟩
  | .local _ .vmem, ⟨11, _⟩ => ⟨S3x384x2048, .bf16⟩
  | .local _ .vmem, ⟨12, _⟩ => ⟨S3x384x32x64, .bf16⟩
  | .local _ .vmem, ⟨13, _⟩ => ⟨S3x384x8x64, .bf16⟩
  | .local _ .vmem, ⟨14, _⟩ => ⟨S3x384x8x64, .bf16⟩
  | .local _ .vmem, ⟨15, _⟩ => ⟨S3x384x2048, .fp8e4m3⟩
  | .local _ .vmem, ⟨16, _⟩ => ⟨S3x384x16, .f32⟩
  | _, _ => ⟨S3x384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S3x384x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x384 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S253 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x384x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x384x32x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x384x8x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x384x8x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x384x2048 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x384x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Spec.lean ====
/- The layer over the reals, one batch entry at a time, over plain functions of row and column: what both programs compute.
   The quantiser's scale and the factor it multiplies by are parameters, as functions of a run's largest magnitude over 448. -/
module

public import Idealize.ShloMosaic.Lib.Pointwise
public import Idealize.ShloMosaic.PureOps.Ideal

@[expose] public section

noncomputable section

namespace Cert.Spec

open Idealize.ShloMosaic

/-- The first result: the residual plus the down projection of the dequantised activation by the dequantised weight. -/
def ro (res : Fin 384 → Fin 2048 → EReal) (h : Fin 384 → Fin 8192 → EReal) (hs : Fin 384 → Fin 64 → EReal)
    (w : Fin 8192 → Fin 2048 → EReal) (ws : Fin 64 → Fin 16 → EReal) (s : Fin 384) (d : Fin 2048) : EReal :=
  res s d + ∑ f : Fin 8192, (h s f * hs s ⟨f.val / 128, by omega⟩) * (w f d * ws ⟨f.val / 128, by omega⟩ ⟨d.val / 128, by omega⟩)

/-- The normed rows. -/
def xn (r : Fin 384 → Fin 2048 → EReal) (nw : Fin 2048 → EReal) (s : Fin 384) (d : Fin 2048) : EReal :=
  r s d * Ideal.rsqrt ((∑ d : Fin 2048, r s d * r s d) * Ideal.ofBits .f32 0x3A000000#32 + Ideal.ofBits .f32 0x358637BD#32) * nw d

/-- A run's largest magnitude over 448. -/
def amax (x : Fin 384 → Fin 2048 → EReal) (s : Fin 384) (g : Fin 16) : EReal :=
  Finset.fold max (Ideal.ofBits .f32 0xFF800000#32) (fun l : Fin 128 => FloatOps.absf (F := Ideal) (φ := .f32) (x s ⟨128 * g.val + l.val, by omega⟩)) Finset.univ *
    Ideal.ofBits .f32 0x3B124925#32

/-- The codes. -/
def code (inv : EReal → EReal) (x : Fin 384 → Fin 2048 → EReal) (s : Fin 384) (d : Fin 2048) : EReal :=
  min (Ideal.ofBits .f32 0x43E00000#32) (max (Ideal.ofBits .f32 0xC3E00000#32) (x s d * inv (amax x s ⟨d.val / 128, by omega⟩)))

/-- The rows read back from codes and scales. -/
def xd (inv sc : EReal → EReal) (x : Fin 384 → Fin 2048 → EReal) (s : Fin 384) (d : Fin 2048) : EReal :=
  code inv x s d * sc (amax x s ⟨d.val / 128, by omega⟩)

/-- The projection. -/
def qkv (x : Fin 384 → Fin 2048 → EReal) (w : Fin 2048 → Fin 3072 → EReal) (ws : Fin 16 → Fin 24 → EReal) (s : Fin 384) (n : Fin 3072) : EReal :=
  ∑ d : Fin 2048, x s d * (w d n * ws ⟨d.val / 128, by omega⟩ ⟨n.val / 128, by omega⟩)

/-- A head turned by the angles: the first half, and the second. -/
def rope (p : Fin 384 → Fin 3072 → EReal) (c sn : Fin 384 → Fin 32 → EReal) (s : Fin 384) (e : Fin 48) (d : Fin 64) : EReal :=
  if h : d.val < 32 then
    p s ⟨64 * e.val + d.val, by omega⟩ * c s ⟨d.val, h⟩ - p s ⟨64 * e.val + 32 + d.val, by omega⟩ * sn s ⟨d.val, h⟩
  else
    p s ⟨64 * e.val + 32 + (d.val - 32), by omega⟩ * c s ⟨d.val - 32, by omega⟩ + p s ⟨64 * e.val + (d.val - 32), by omega⟩ * sn s ⟨d.val - 32, by omega⟩

end Cert.Spec

end
-- ==== Proof.Words.lean ====
/- A vocabulary for the values the kernel's body computes: one term per kind of value, over the blocks that it reads. The
   body writes each of them many times (one per column tile, per group of 128 columns, per head); the equations of
   `Pieces.lean` say that all of these are the terms below. -/
module

public import proofs.«01_k».proof.Proof.Gen.KernelIdeal.Skeleton
public import Idealize.ShloMosaic.Lib.Pipeline.ValueKit

@[expose] public section

set_option synthInstance.maxSize 4096

noncomputable section

namespace Cert.KernelIdeal.Hand

open Cert.KernelIdeal.Gen
open Idealize.ShloMosaic Idealize.SL.Sem

variable {F : FTy → Type} [FloatOps F]

/-! ## Where the body's rectangles lie -/

/-- The run g of 128 columns lies within the activation block; the lemmas after it say the same of the other loads and stores. -/
theorem inbH (g : Fin 64) : ∀ a, (![0, 0, 128 * g.val] : Fin 3 → ℕ) a + S1x384x128.size a ≤ S1x384x8192.size a := by
  intro a; have := g.isLt; fin_cases a <;> simp <;> omega

theorem inbHd (g : Fin 64) : ∀ a, (![0, 128 * g.val] : Fin 2 → ℕ) a + S384x128.size a ≤ S384x8192.size a := by
  intro a; have := g.isLt; fin_cases a <;> simp <;> omega

theorem inbX (g : Fin 16) : ∀ a, (![0, 0, 128 * g.val] : Fin 3 → ℕ) a + S1x384x128.size a ≤ S1x384x2048.size a := by
  intro a; have := g.isLt; fin_cases a <;> simp <;> omega

theorem inbXd (g : Fin 16) : ∀ a, (![0, 128 * g.val] : Fin 2 → ℕ) a + S384x128.size a ≤ S384x2048.size a := by
  intro a; have := g.isLt; fin_cases a <;> simp <;> omega

theorem inbNw (g : Fin 16) : ∀ a, (![0, 128 * g.val] : Fin 2 → ℕ) a + S1x128.size a ≤ S1x2048.size a := by
  intro a; have := g.isLt; fin_cases a <;> simp <;> omega

theorem inbWd (k : Fin 64) (n : Fin 16) :
    ∀ a, (![128 * k.val, 128 * n.val] : Fin 2 → ℕ) a + S128x128.size a ≤ S8192x2048.size a := by
  intro a; have := k.isLt; have := n.isLt; fin_cases a <;> simp <;> omega

theorem inbWds (k : Fin 64) (n : Fin 16) : ∀ a, (![k.val, n.val] : Fin 2 → ℕ) a + S1x1.size a ≤ S64x16.size a := by
  intro a; have := k.isLt; have := n.isLt; fin_cases a <;> simp <;> omega

theorem inbWq (k : Fin 16) (n : Fin 24) :
    ∀ a, (![128 * k.val, 128 * n.val] : Fin 2 → ℕ) a + S128x128.size a ≤ S2048x3072.size a := by
  intro a; have := k.isLt; have := n.isLt; fin_cases a <;> simp <;> omega

theorem inbWqs (k : Fin 16) (n : Fin 24) : ∀ a, (![k.val, n.val] : Fin 2 → ℕ) a + S1x1.size a ≤ S16x24.size a := by
  intro a; have := k.isLt; have := n.isLt; fin_cases a <;> simp <;> omega

theorem inbY (k : Fin 8) : ∀ a, (![0, 0, 256 * k.val] : Fin 3 → ℕ) a + S1x384x256.size a ≤ S1x384x2048.size a := by
  intro a; have := k.isLt; fin_cases a <;> simp <;> omega

theorem inbQ (h : Fin 32) (b : Fin 2) :
    ∀ a, (![0, h.val, 32 * b.val, 0] : Fin 4 → ℕ) a + S1x1x32x384.size a ≤ S1x32x64x384.size a := by
  intro a; have := h.isLt; have := b.isLt; fin_cases a <;> simp <;> omega

theorem inbK (h : Fin 8) (b : Fin 2) :
    ∀ a, (![0, h.val, 32 * b.val, 0] : Fin 4 → ℕ) a + S1x1x32x384.size a ≤ S1x8x64x384.size a := by
  intro a; have := h.isLt; have := b.isLt; fin_cases a <;> simp <;> omega

/-- A one-by-one block has an element. -/
theorem posS1x1 : 0 < S1x1.numel := by decide

/-- The column g of the activation scales can be cut out. -/
theorem slcHs (g : Fin 64) : S384x64.Slices ![0, g.val] S384x1 :=
  ⟨rfl, by intro a; have := g.isLt; fin_cases a <;> simp⟩

/-- Half a head can be cut out of a transposed tile. -/
theorem slcAt (j : Fin 4) (b : Fin 2) : S256x384.Slices ![64 * j.val + 32 * b.val, 0] S32x384 :=
  ⟨rfl, by intro a; have := j.isLt; have := b.isLt; fin_cases a <;> simp; omega⟩

/-- Sixteen 128 x 128 blocks stack into one column. -/
theorem catCol {α : Type} (f : Fin 16 → (S128x128.Idx → α)) :
    Shape.Concatenates ((List.ofFn fun k : Fin 16 => (⟨S128x128, f k⟩ : (s : Shape) × (s.Idx → α))).map (·.1)) S2048x128 0 := by
  rw [List.map_ofFn]; exact (by decide : Shape.Concatenates (List.ofFn fun _ : Fin 16 => S128x128) S2048x128 0)

/-- Sixty-four 128 x 128 blocks stack into one column. -/
theorem catCol64 {α : Type} (f : Fin 64 → (S128x128.Idx → α)) :
    Shape.Concatenates ((List.ofFn fun k : Fin 64 => (⟨S128x128, f k⟩ : (s : Shape) × (s.Idx → α))).map (·.1)) S8192x128 0 := by
  rw [List.map_ofFn]; exact (by decide +kernel : Shape.Concatenates (List.ofFn fun _ : Fin 64 => S128x128) S8192x128 0)

/-! ## The blocks the body loads -/

/-- 128 columns of the activation codes. -/
def hBlk (X0 : Vec F S1x384x8192 .fp8e4m3) (g : Fin 64) : Vec F S1x384x128 .fp8e4m3 :=
  View.ld X0 (Rect.unit (s := S1x384x8192) ![0, 0, 128 * g.val] S1x384x128.size (inbH g))

/-- The activation's scales. -/
def hsBlk (X1 : Vec F S1x64x384 .f32) : Vec F S1x64x384 .f32 :=
  View.ld X1 (Rect.unit (s := S1x64x384) ![0, 0, 0] S1x64x384.size inb_S1x64x384_S1x64x384_0_0_0)

/-- 256 columns of the residual. -/
def resBlk (X4 : Vec F S1x384x2048 .bf16) (k : Fin 8) : Vec F S1x384x256 .bf16 :=
  View.ld X4 (Rect.unit (s := S1x384x2048) ![0, 0, 256 * k.val] S1x384x256.size (inbY k))

/-- The whole dequantised activation. -/
def hdBlk (A17 : Vec F S384x8192 .bf16) : Vec F S384x8192 .bf16 :=
  View.ld A17 (Rect.unit (s := S384x8192) ![0, 0] S384x8192.size inb_S384x8192_S384x8192_0_0)

/-- 128 columns of the first result. -/
def roBlk (R : Vec F S1x384x2048 .bf16) (g : Fin 16) : Vec F S1x384x128 .bf16 :=
  View.ld R (Rect.unit (s := S1x384x2048) ![0, 0, 128 * g.val] S1x384x128.size (inbX g))

/-- 128 of the norm's weights. -/
def nwBlk (X5 : Vec F S1x2048 .f32) (g : Fin 16) : Vec F S1x128 .f32 :=
  View.ld X5 (Rect.unit (s := S1x2048) ![0, 128 * g.val] S1x128.size (inbNw g))

/-! ## The down projection -/

/-- One 128 × 128 tile of a weight: its codes by the tile's scale. -/
def wTile (w : Vec F S128x128 .fp8e4m3) (s : Elt F .f32) : FVec F S128x128 .bf16 :=
  mulf (extf .bf16 w bitsLt_fp8e4m3_bf16) (truncf .bf16 (broadcast S128x128 s) bitsLt_bf16_f32)

/-- One run of 128 columns of the dequantised activation. -/
def hdPiece (X0 : Vec F S1x384x8192 .fp8e4m3) (X1 : Vec F S1x64x384 .f32) (g : Fin 64) : FVec F S384x128 .bf16 :=
  shapeCast S384x128
    (mulf (extf .bf16 (shapeCast S384x128 (hBlk X0 g) shapeCasts_S1x384x128_S384x128) bitsLt_fp8e4m3_bf16)
      (truncf .bf16
        (broadcastTo S384x128
          (shapeCast S384x1
            (extractStridedSlice S384x1 ![0, g.val]
              (transpose S384x64 [1, 0]
                (shapeCast S64x384 (hsBlk X1) shapeCasts_S1x64x384_S64x384)
                transposes_S64x384_p1_0_S384x64)
              (slcHs g))
            shapeCasts_S384x1_S384x1)
          broadcasts_S384x1_S384x128)
        bitsLt_bf16_f32))
    shapeCasts_S384x128_S384x128

/-- 128 columns of the dequantised down-projection weight. -/
def wdCol (X2 : Vec F S8192x2048 .fp8e4m3) (X3 : Vec F S64x16 .f32) (n : Fin 16) : FVec F S8192x128 .bf16 :=
  concatenate S8192x128 0
    (List.ofFn fun k : Fin 64 => (⟨S128x128,
      wTile (View.ld X2 (Rect.unit (s := S8192x2048) ![128 * k.val, 128 * n.val] S128x128.size (inbWd k n)))
        (View.ld X3 (Rect.unit (s := S64x16) ![k.val, n.val] S1x1.size (inbWds k n)) (Shape.Idx.first posS1x1))⟩ :
      (s : Shape) × (s.Idx → Elt F .bf16)))
    (catCol64 _)

/-- 256 columns of the first result: the residual plus the product. -/
def yTile (A17 : Vec F S384x8192 .bf16) (X2 : Vec F S8192x2048 .fp8e4m3) (X3 : Vec F S64x16 .f32) (X4 : Vec F S1x384x2048 .bf16)
    (n0 n1 : Fin 16) (k : Fin 8) : FVec F S384x256 .bf16 :=
  truncf .bf16
    (addf (extf .f32 (shapeCast S384x256 (resBlk X4 k) shapeCasts_S1x384x256_S384x256) bitsLt_bf16_f32)
      (matmul dot_S384x8192_S8192x256_S384x256_1_0_0_1_n_n none (hdBlk A17)
        (concatenate S8192x256 1 [⟨S8192x128, wdCol X2 X3 n0⟩, ⟨S8192x128, wdCol X2 X3 n1⟩] concatenates_S8192x128_S8192x128_S8192x256_d1)
        (constant S384x256 .f32 0x00000000#32)))
    bitsLt_bf16_f32

/-- The running sum of squares after 256 more columns. -/
def ssqStep (y : FVec F S384x256 .bf16) (s : Vec F S384x128 .f32) : FVec F S384x128 .f32 :=
  shapeCast S384x128
    (addf s
      (addf (extractStridedSlice S384x128 ![0, 0] (mulf (extf .f32 y bitsLt_bf16_f32) (extf .f32 y bitsLt_bf16_f32)) slices_S384x256_o0_0_S384x128)
        (extractStridedSlice S384x128 ![0, 128] (mulf (extf .f32 y bitsLt_bf16_f32) (extf .f32 y bitsLt_bf16_f32)) slices_S384x256_o0_128_S384x128)))
    shapeCasts_S384x128_S384x128

/-! ## The norm and the quantiser -/

/-- One over the root mean square, per row. -/
def rsCol (S : Vec F S384x128 .f32) : FVec F S384x1 .f32 :=
  rsqrt (addf
    (mulf (shapeCast S384x1 (multiReduction .add [1] S384 S 0x00000000#32 reduces_S384x128_S384 (.inl rfl) rfl) shapeCasts_S384_S384x1)
      (broadcast S384x1 (Scalar.ofBits .f32 0x3A000000#32 : F .f32)))
    (broadcast S384x1 (Scalar.ofBits .f32 0x358637BD#32 : F .f32)))

/-- One run of 128 columns of the normed rows. -/
def xGrp (R : Vec F S1x384x2048 .bf16) (S : Vec F S384x128 .f32) (X5 : Vec F S1x2048 .f32) (g : Fin 16) : FVec F S384x128 .f32 :=
  mulf
    (mulf (extf .f32 (shapeCast S384x128 (roBlk R g) shapeCasts_S1x384x128_S384x128) bitsLt_bf16_f32)
      (broadcastTo S384x128 (rsCol S) broadcasts_S384x1_S384x128))
    (broadcastTo S384x128 (shapeCast S1x128 (nwBlk X5 g) shapeCasts_S1x128_S1x128)
      broadcasts_S1x128_S384x128)

/-- The largest magnitude of each row of a run, over 448. -/
def yGrp (x : FVec F S384x128 .f32) : FVec F S384x128 .f32 :=
  mulf
    (broadcastTo S384x128
      (shapeCast S384x1
        (shapeCast S384x1 (multiReduction .maximumf [1] S384 (absf x) 0xFF800000#32 reduces_S384x128_S384 (.inl rfl) rfl) shapeCasts_S384_S384x1)
        shapeCasts_S384x1_S384x1)
      broadcasts_S384x1_S384x128)
    (broadcast S384x128 (Scalar.ofBits .f32 0x3B124925#32 : F .f32))

/-- One step of the search for the exponent bits: keep the bit when the power of two that they then spell is at most `y`. -/
def bitStep (y : FVec F S384x128 .f32) (t : IVec S384x128 32) (b : BitVec 32) : IVec S384x128 32 :=
  select (cmpf .ole (bitcastToFloat (F := F) .f32 (ori t (broadcast S384x128 b))) y) (ori t (broadcast S384x128 b)) t

/-- The exponent bits of `y`, found from the top bit down. -/
def expBits (y : FVec F S384x128 .f32) : IVec S384x128 32 :=
  [1073741824#32, 536870912#32, 268435456#32, 134217728#32, 67108864#32, 33554432#32, 16777216#32, 8388608#32].foldl (bitStep y)
    (broadcast S384x128 0#32)

/-- The scale the exponent bits name. -/
def scaleOf (t : IVec S384x128 32) : FVec F S384x128 .f32 :=
  bitcastToFloat .f32 (select (cmpi .eq t (broadcast S384x128 0#32)) (broadcast S384x128 1065353216#32) (addi t (broadcast S384x128 8388608#32)))

/-- One over the scale. -/
def invOf (t : IVec S384x128 32) : FVec F S384x128 .f32 :=
  bitcastToFloat .f32 (select (cmpi .eq t (broadcast S384x128 0#32)) (broadcast S384x128 1065353216#32) (subi (broadcast S384x128 2122317824#32) t))

/-- The codes of one run. -/
def codeGrp (x : FVec F S384x128 .f32) : FVec F S384x128 .fp8e4m3 :=
  truncf .fp8e4m3
    (minimumf (broadcast S384x128 (Scalar.ofBits .f32 0x43E00000#32 : F .f32))
      (maximumf (broadcast S384x128 (Scalar.ofBits .f32 0xC3E00000#32 : F .f32)) (mulf x (invOf (expBits (yGrp x))))))
    bitsLt_fp8e4m3_f32

/-- The codes as they are stored. -/
def xcPiece (x : FVec F S384x128 .f32) : FVec F S1x384x128 .fp8e4m3 := shapeCast S1x384x128 (codeGrp x) shapeCasts_S384x128_S1x384x128

/-- The run read back from its codes and scale. -/
def xdPiece (x : FVec F S384x128 .f32) : FVec F S384x128 .bf16 :=
  shapeCast S384x128
    (mulf (extf .bf16 (codeGrp x) bitsLt_fp8e4m3_bf16) (truncf .bf16 (scaleOf (F := F) (expBits (yGrp x))) bitsLt_bf16_f32))
    shapeCasts_S384x128_S384x128

/-- The scales of the first `n` runs, one per lane. -/
def xsLanes (sc : Fin 16 → FVec F S384x128 .f32) : (n : ℕ) → n ≤ 16 → FVec F S384x128 .f32
  | 0, _ => broadcast S384x128 (Scalar.ofBits .f32 0x00000000#32 : F .f32)
  | n + 1, h => select (cmpi .eq (iota .tc S384x128 32 [1] iota_S384x128_d1_w32) (broadcast S384x128 (BitVec.ofNat 32 n)))
      (sc ⟨n, h⟩) (xsLanes sc n (Nat.le_of_succ_le h))

/-- The scales as they are stored. -/
def xsPiece (sc : Fin 16 → FVec F S384x128 .f32) : FVec F S1x16x384 .f32 :=
  shapeCast S1x16x384
    (extractStridedSlice S16x384 ![0, 0] (transpose S128x384 [1, 0] (xsLanes sc 16 (Nat.le_refl 16)) transposes_S384x128_p1_0_S128x384)
      slices_S128x384_o0_0_S16x384)
    shapeCasts_S16x384_S1x16x384

/-! ## The query, key and value projection -/

/-- The angles: position by frequency. -/
def thetaW (X8 : Vec F S1x1x384 .i32) (X9 : Vec F S32x1 .f32) : FVec F S32x384 .f32 :=
  mulf
    (broadcastTo S32x384
      (sitofp .f32 (shapeCast S1x384 (View.ld X8 (Rect.unit (s := S1x1x384) ![0, 0, 0] S1x1x384.size inb_S1x1x384_S1x1x384_0_0_0)) shapeCasts_S1x1x384_S1x384 : IVec S1x384 32))
      broadcasts_S1x384_S32x384)
    (broadcastTo S32x384 (View.ld X9 (Rect.unit (s := S32x1) ![0, 0] S32x1.size inb_S32x1_S32x1_0_0)) broadcasts_S32x1_S32x384)

/-- 128 columns of the dequantised weight. -/
def wqCol (X6 : Vec F S2048x3072 .fp8e4m3) (X7 : Vec F S16x24 .f32) (n : Fin 24) : FVec F S2048x128 .bf16 :=
  concatenate S2048x128 0
    (List.ofFn fun k : Fin 16 => (⟨S128x128,
      wTile (View.ld X6 (Rect.unit (s := S2048x3072) ![128 * k.val, 128 * n.val] S128x128.size (inbWq k n)))
        (View.ld X7 (Rect.unit (s := S16x24) ![k.val, n.val] S1x1.size (inbWqs k n)) (Shape.Idx.first posS1x1))⟩ :
      (s : Shape) × (s.Idx → Elt F .bf16)))
    (catCol _)

/-- 256 columns of the projection, turned. -/
def atTile (A19 : Vec F S384x2048 .bf16) (X6 : Vec F S2048x3072 .fp8e4m3) (X7 : Vec F S16x24 .f32) (n0 n1 : Fin 24) : FVec F S256x384 .f32 :=
  transpose S256x384 [1, 0]
    (matmul dot_S384x2048_S2048x256_S384x256_1_0_0_1_n_n none A19
      (concatenate S2048x256 1 [⟨S2048x128, wqCol X6 X7 n0⟩, ⟨S2048x128, wqCol X6 X7 n1⟩] concatenates_S2048x128_S2048x128_S2048x256_d1)
      (constant S384x256 .f32 0x00000000#32))
    transposes_S384x256_p1_0_S256x384

/-- Half a head of a turned tile. -/
def halfOf (at_ : FVec F S256x384 .f32) (j : Fin 4) (b : Fin 2) : FVec F S32x384 .f32 :=
  extractStridedSlice S32x384 ![64 * j.val + 32 * b.val, 0] at_ (slcAt j b)

/-- Half a head, turned by the angle, as it is stored. -/
def ropePiece (cs sn : Vec F S32x384 .f32) (at_ : FVec F S256x384 .f32) (j : Fin 4) : Fin 2 → FVec F S1x1x32x384 .bf16
  | 0 => shapeCast S1x1x32x384 (truncf .bf16 (subf (mulf (halfOf at_ j 0) cs) (mulf (halfOf at_ j 1) sn)) bitsLt_bf16_f32) shapeCasts_S32x384_S1x1x32x384
  | 1 => shapeCast S1x1x32x384 (truncf .bf16 (addf (mulf (halfOf at_ j 1) cs) (mulf (halfOf at_ j 0) sn)) bitsLt_bf16_f32) shapeCasts_S32x384_S1x1x32x384

/-- Half a head that is not turned. -/
def vPiece (at_ : FVec F S256x384 .f32) (j : Fin 4) (b : Fin 2) : FVec F S1x1x32x384 .bf16 :=
  shapeCast S1x1x32x384 (truncf .bf16 (halfOf at_ j b) bitsLt_bf16_f32) shapeCasts_S32x384_S1x1x32x384

end Cert.KernelIdeal.Hand

end
-- ==== Proof.Meaning.lean ====
/- What each word of `Words.lean` is over the reals, element by element. -/
module

public import proofs.«01_k».proof.Proof.Words
public import Idealize.ShloMosaic.Lib.Pointwise
public import Idealize.ShloMosaic.PureOps.Ideal

@[expose] public section

set_option maxRecDepth 16384

noncomputable section

namespace Cert.KernelIdeal.Hand

open Cert.KernelIdeal.Gen
open Idealize.ShloMosaic Idealize.SL.Sem

/-! ## The loaded blocks -/

/-- A load of 128 columns of the activation codes; the loads after it are alike. -/
theorem hBlk_apply (X0 : Vec Ideal S1x384x8192 .fp8e4m3) (g : Fin 64) (s : Fin 384) (l : Fin 128) :
    hBlk X0 g (ix3 0 s l) = X0 (ix3 0 s ⟨128 * g.val + l.val, by omega⟩) :=
  View.ld_unit_apply_of _ _ _ _ _ _ (by intro a; fin_cases a <;> simp)

theorem hsBlk_eq (X1 : Vec Ideal S1x64x384 .f32) : hsBlk X1 = X1 :=
  View.ld_unit_zero (S := S1x64x384) (off := ![0, 0, 0]) (by funext a; fin_cases a <;> rfl) _ X1

theorem hdBlk_eq (A17 : Vec Ideal S384x8192 .bf16) : hdBlk A17 = A17 :=
  View.ld_unit_zero (S := S384x8192) (off := ![0, 0]) (by funext a; fin_cases a <;> rfl) _ A17

theorem resBlk_apply (X4 : Vec Ideal S1x384x2048 .bf16) (k : Fin 8) (s : Fin 384) (l : Fin 256) :
    resBlk X4 k (ix3 0 s l) = X4 (ix3 0 s ⟨256 * k.val + l.val, by omega⟩) :=
  View.ld_unit_apply_of _ _ _ _ _ _ (by intro a; fin_cases a <;> simp)

theorem roBlk_apply (R : Vec Ideal S1x384x2048 .bf16) (g : Fin 16) (s : Fin 384) (l : Fin 128) :
    roBlk R g (ix3 0 s l) = R (ix3 0 s ⟨128 * g.val + l.val, by omega⟩) :=
  View.ld_unit_apply_of _ _ _ _ _ _ (by intro a; fin_cases a <;> simp)

theorem nwBlk_apply (X5 : Vec Ideal S1x2048 .f32) (g : Fin 16) (l : Fin 128) :
    nwBlk X5 g (ix2 0 l) = X5 (ix2 0 ⟨128 * g.val + l.val, by omega⟩) :=
  View.ld_unit_apply_of _ _ _ _ _ _ (by intro a; fin_cases a <;> simp)

/-! ## The down projection -/

/-- The dequantised activation: code times scale. -/
theorem hdPiece_apply (X0 : Vec Ideal S1x384x8192 .fp8e4m3) (X1 : Vec Ideal S1x64x384 .f32) (g : Fin 64) (s : Fin 384) (l : Fin 128) :
    hdPiece X0 X1 g (ix2 s l) = X0 (ix3 0 s ⟨128 * g.val + l.val, by omega⟩) * X1 (ix3 0 g s) := by
  pointwise [hdPiece]
  rw [hBlk_apply, hsBlk_eq]

/-- A column block of the dequantised down weight. -/
theorem wdCol_apply (X2 : Vec Ideal S8192x2048 .fp8e4m3) (X3 : Vec Ideal S64x16 .f32) (n : Fin 16) (f : Fin 8192) (l : Fin 128) :
    wdCol X2 X3 n (ix2 f l) = X2 (ix2 f ⟨128 * n.val + l.val, by omega⟩) * X3 (ix2 ⟨f.val / 128, by omega⟩ n) := by
  unfold wdCol
  rw [concatenate_ofFn_apply (s₁ := S128x128) (t := S8192x128) 0 _ _ rfl 128 rfl (ix2 f l) ⟨f.val / 128, by omega⟩ rfl
    (ix2 ⟨f.val % 128, by omega⟩ l) rfl (by intro b hb; fin_cases b <;> first | exact absurd rfl hb | rfl)]
  pointwise [wTile, View.ld]
  congr 3
  exact Fin.ext (by simp only; omega)

/-- A column block of the dequantised qkv weight. -/
theorem wqCol_apply (X6 : Vec Ideal S2048x3072 .fp8e4m3) (X7 : Vec Ideal S16x24 .f32) (n : Fin 24) (d : Fin 2048) (l : Fin 128) :
    wqCol X6 X7 n (ix2 d l) = X6 (ix2 d ⟨128 * n.val + l.val, by omega⟩) * X7 (ix2 ⟨d.val / 128, by omega⟩ n) := by
  unfold wqCol
  rw [concatenate_ofFn_apply (s₁ := S128x128) (t := S2048x128) 0 _ _ rfl 128 rfl (ix2 d l) ⟨d.val / 128, by omega⟩ rfl
    (ix2 ⟨d.val % 128, by omega⟩ l) rfl (by intro b hb; fin_cases b <;> first | exact absurd rfl hb | rfl)]
  pointwise [wTile, View.ld]
  congr 3
  exact Fin.ext (by simp only; omega)

/-- A tile of the first result: residual plus product. -/
theorem yTile_apply (A17 : Vec Ideal S384x8192 .bf16) (X2 : Vec Ideal S8192x2048 .fp8e4m3) (X3 : Vec Ideal S64x16 .f32) (X4 : Vec Ideal S1x384x2048 .bf16)
    (k : Fin 8) (s : Fin 384) (l : Fin 256) :
    yTile A17 X2 X3 X4 ⟨2 * k.val, by omega⟩ ⟨2 * k.val + 1, by omega⟩ k (ix2 s l) =
      X4 (ix3 0 s ⟨256 * k.val + l.val, by omega⟩) + ∑ f : Fin 8192, A17 (ix2 s f) *
        (X2 (ix2 f ⟨256 * k.val + l.val, by omega⟩) * X3 (ix2 ⟨f.val / 128, by omega⟩ ⟨(256 * k.val + l.val) / 128, by omega⟩)) := by
  pointwise [yTile]
  rw [resBlk_apply, hdBlk_eq]
  congr 1
  refine Finset.sum_congr rfl fun f _ => ?_
  congr 1
  split
  · rw [wdCol_apply]
    congr 3 <;> exact Fin.ext (by simp only; omega)
  · rw [wdCol_apply]
    congr 3 <;> exact Fin.ext (by simp only; omega)

/-- The running sums of squares take in one tile. -/
theorem ssqStep_apply (y : FVec Ideal S384x256 .bf16) (S : Vec Ideal S384x128 .f32) (s : Fin 384) (l : Fin 128) :
    ssqStep y S (ix2 s l) = S (ix2 s l) + (y (ix2 s ⟨l.val, by omega⟩) * y (ix2 s ⟨l.val, by omega⟩) +
      y (ix2 s ⟨128 + l.val, by omega⟩) * y (ix2 s ⟨128 + l.val, by omega⟩)) := by
  pointwise [ssqStep]

/-! ## The norm and the quantiser -/

/-- The reciprocal root of the mean square plus epsilon. -/
theorem rsCol_apply (S : Vec Ideal S384x128 .f32) (s : Fin 384) :
    rsCol S (ix2 s 0) = Ideal.rsqrt ((∑ l : Fin 128, S (ix2 s l)) * Ideal.ofBits .f32 0x3A000000#32 + Ideal.ofBits .f32 0x358637BD#32) := by
  pointwise [rsCol]

/-- A run of 128 normed columns. -/
theorem xGrp_apply (R : Vec Ideal S1x384x2048 .bf16) (S : Vec Ideal S384x128 .f32) (X5 : Vec Ideal S1x2048 .f32) (g : Fin 16) (s : Fin 384) (l : Fin 128) :
    xGrp R S X5 g (ix2 s l) = R (ix3 0 s ⟨128 * g.val + l.val, by omega⟩) *
      Ideal.rsqrt ((∑ l : Fin 128, S (ix2 s l)) * Ideal.ofBits .f32 0x3A000000#32 + Ideal.ofBits .f32 0x358637BD#32) *
        X5 (ix2 0 ⟨128 * g.val + l.val, by omega⟩) := by
  pointwise [xGrp]
  rw [roBlk_apply, nwBlk_apply, rsCol_apply]

/-- The largest magnitude of a run, over 448. -/
theorem yGrp_apply (x : FVec Ideal S384x128 .f32) (s : Fin 384) (l : Fin 128) :
    yGrp x (ix2 s l) = Finset.fold max (Ideal.ofBits .f32 0xFF800000#32) (fun l : Fin 128 => FloatOps.absf (F := Ideal) (x (ix2 s l))) Finset.univ *
      Ideal.ofBits .f32 0x3B124925#32 := by
  pointwise [yGrp]

/-- A selection on equality is an `if`. -/
theorem select_eq {α : Type} {w : ℕ} (a b : BitVec w) (x y : α) : Scalar.select (IntOp.cmpi .eq a b) x y = if a = b then x else y := by
  by_cases h : a = b
  · simp [Scalar.select, IntOp.cmpi, h]
  · have : (a == b) = false := by simpa using h
    simp [Scalar.select, IntOp.cmpi, h, this]

/-- One step of the search on one element. -/
def bit1 (y : EReal) (t b : BitVec 32) : BitVec 32 := if Ideal.ofBits .f32 (t ||| b) ≤ y then t ||| b else t

/-- The exponent bits of one element. -/
def bits1 (y : EReal) : BitVec 32 :=
  [1073741824#32, 536870912#32, 268435456#32, 134217728#32, 67108864#32, 33554432#32, 16777216#32, 8388608#32].foldl (bit1 y) 0#32

/-- The scale of one element, and one over it. -/
def scale1 (y : EReal) : EReal := Ideal.ofBits .f32 (if bits1 y = 0#32 then 1065353216#32 else bits1 y + 8388608#32)
/-- The factor the kernel multiplies by, at one element. -/
def inv1 (y : EReal) : EReal := Ideal.ofBits .f32 (if bits1 y = 0#32 then 1065353216#32 else 2122317824#32 - bits1 y)

/-- One step of the search for the exponent bits, at one element. -/
theorem bitStep_apply (y : FVec Ideal S384x128 .f32) (t : IVec S384x128 32) (b : BitVec 32) (i : S384x128.Idx) :
    bitStep y t b i = bit1 (y i) (t i) b := by
  pointwise [bitStep, bit1]
  rfl

/-- Any number of steps of the search, at one element. -/
theorem foldl_bitStep_apply (y : FVec Ideal S384x128 .f32) (i : S384x128.Idx) (L : List (BitVec 32)) :
    ∀ t : IVec S384x128 32, L.foldl (bitStep y) t i = L.foldl (bit1 (y i)) (t i) := by
  induction L with
  | nil => intro t; rfl
  | cons b L ih => intro t; rw [List.foldl_cons, List.foldl_cons, ih, bitStep_apply]

/-- The whole search, at one element. -/
theorem expBits_apply (y : FVec Ideal S384x128 .f32) (i : S384x128.Idx) : expBits y i = bits1 (y i) :=
  foldl_bitStep_apply y i _ _

/-- The scale from the bits found. -/
theorem scaleOf_apply (y : FVec Ideal S384x128 .f32) (i : S384x128.Idx) : scaleOf (F := Ideal) (expBits y) i = scale1 (y i) := by
  pointwise [scaleOf, scale1]
  rw [expBits_apply, select_eq]
  rfl

/-- The factor from the bits found. -/
theorem invOf_apply (y : FVec Ideal S384x128 .f32) (i : S384x128.Idx) : invOf (F := Ideal) (expBits y) i = inv1 (y i) := by
  pointwise [invOf, inv1]
  rw [expBits_apply, select_eq]
  rfl

/-- The codes of a run. -/
theorem codeGrp_apply (x : FVec Ideal S384x128 .f32) (i : S384x128.Idx) :
    codeGrp x i = min (Ideal.ofBits .f32 0x43E00000#32) (max (Ideal.ofBits .f32 0xC3E00000#32) (x i * inv1 (yGrp x i))) := by
  pointwise [codeGrp]
  rw [invOf_apply]

/-- What is stored of the codes. -/
theorem xcPiece_apply (x : FVec Ideal S384x128 .f32) (s : Fin 384) (l : Fin 128) :
    xcPiece x (ix3 0 s l) = codeGrp x (ix2 s l) := by
  pointwise [xcPiece]

/-- What is stored of the run read back from codes and scale. -/
theorem xdPiece_apply (x : FVec Ideal S384x128 .f32) (i : S384x128.Idx) :
    xdPiece x i = codeGrp x i * scale1 (yGrp x i) := by
  pointwise [xdPiece]
  rw [scaleOf_apply]

/-- The sixteen scales gathered into sixteen lanes. -/
theorem xsLanes_apply (sc : Fin 16 → FVec Ideal S384x128 .f32) (s : Fin 384) (l : Fin 128) :
    ∀ (n : ℕ) (h : n ≤ 16), xsLanes sc n h (ix2 s l) = if hl : l.val < n then sc ⟨l.val, by omega⟩ (ix2 s l) else 0
  | 0, h => by
      pointwise [xsLanes]
      simp [Ideal.ofBits, Ideal.ieee]
  | n + 1, h => by
      pointwise [xsLanes]
      rw [xsLanes_apply sc s l n (by omega)]
      rw [select_eq]
      by_cases e : l.val = n
      · subst e; simp
      · have : BitVec.ofNat 32 l.val ≠ BitVec.ofNat 32 n := by
          intro h'; apply e; have := congrArg BitVec.toNat h'; simp at this; omega
        rw [if_neg this]
        by_cases e' : l.val < n
        · rw [dif_pos e', dif_pos (by omega)]
        · rw [dif_neg e', dif_neg (by omega)]

/-- The scales as stored, one row for each run. -/
theorem xsPiece_apply (sc : Fin 16 → FVec Ideal S384x128 .f32) (g : Fin 16) (s : Fin 384) :
    xsPiece sc (ix3 0 g s) = sc g (ix2 s ⟨g.val, by omega⟩) := by
  pointwise [xsPiece]
  rw [xsLanes_apply, dif_pos g.isLt]

/-! ## The query, key and value projection -/

/-- The angles. -/
theorem thetaW_apply (X8 : Vec Ideal S1x1x384 .i32) (X9 : Vec Ideal S32x1 .f32) (i : Fin 32) (s : Fin 384) :
    thetaW X8 X9 (ix2 i s) = FloatOps.sitofp (F := Ideal) .f32 (X8 (ix3 0 0 s)) * X9 (ix2 i 0) := by
  pointwise [thetaW, View.ld]

/-- A transposed tile of the qkv projection. -/
theorem headTile_apply (A19 : Vec Ideal S384x2048 .bf16) (X6 : Vec Ideal S2048x3072 .fp8e4m3) (X7 : Vec Ideal S16x24 .f32) (t : ℕ) (ht : t < 12) (l : Fin 256) (s : Fin 384) :
    atTile A19 X6 X7 ⟨2 * t, by omega⟩ ⟨2 * t + 1, by omega⟩ (ix2 l s) = ∑ d : Fin 2048, A19 (ix2 s d) *
      (X6 (ix2 d ⟨256 * t + l.val, by omega⟩) * X7 (ix2 ⟨d.val / 128, by omega⟩ ⟨(256 * t + l.val) / 128, by omega⟩)) := by
  pointwise [atTile]
  refine Finset.sum_congr rfl fun f _ => ?_
  congr 1
  split
  · rw [wqCol_apply]
    congr 3 <;> exact Fin.ext (by simp only; omega)
  · rw [wqCol_apply]
    congr 3 <;> exact Fin.ext (by simp only; omega)

/-- Half a v head, as stored. -/
theorem vPiece_apply (at_ : FVec Ideal S256x384 .f32) (j : Fin 4) (b : Fin 2) (d : Fin 32) (s : Fin 384) :
    vPiece at_ j b (ix4 0 0 d s) = at_ (ix2 ⟨64 * j.val + 32 * b.val + d.val, by omega⟩ s) := by
  pointwise [vPiece, halfOf]

/-- The lower half of a rotated head, as stored. -/
theorem ropePiece0_apply (cs sn : Vec Ideal S32x384 .f32) (at_ : FVec Ideal S256x384 .f32) (j : Fin 4) (d : Fin 32) (s : Fin 384) :
    ropePiece cs sn at_ j 0 (ix4 0 0 d s) = at_ (ix2 ⟨64 * j.val + d.val, by omega⟩ s) * cs (ix2 d s) -
      at_ (ix2 ⟨64 * j.val + 32 + d.val, by omega⟩ s) * sn (ix2 d s) := by
  pointwise [ropePiece, halfOf]

/-- The upper half of a rotated head, as stored. -/
theorem ropePiece1_apply (cs sn : Vec Ideal S32x384 .f32) (at_ : FVec Ideal S256x384 .f32) (j : Fin 4) (d : Fin 32) (s : Fin 384) :
    ropePiece cs sn at_ j 1 (ix4 0 0 d s) = at_ (ix2 ⟨64 * j.val + 32 + d.val, by omega⟩ s) * cs (ix2 d s) +
      at_ (ix2 ⟨64 * j.val + d.val, by omega⟩ s) * sn (ix2 d s) := by
  pointwise [ropePiece, halfOf]

end Cert.KernelIdeal.Hand

end
-- ==== Proof.Run.lean ====
/- The kernel's body at one point of the grid: the memrefs it is given, and its run. The run is the generated frame's of a
   kernel whose outputs are named, with one change: the first output's buffer is held at stated contents from the start,
   because the body loads back what its loop stored there. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .vmem S1x384x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x3072 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S16x24 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x384 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x64x384 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x64x384 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8x64x384 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x384x2048 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x16x384 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S384x8192 .bf16 := Memref.whole cc0_scratch0
abbrev scM0_1 : Memref sig .tc .vmem S384x128 .f32 := Memref.whole cc0_scratch1
abbrev scM0_2 : Memref sig .tc .vmem S384x2048 .bf16 := Memref.whole cc0_scratch2
abbrev scM0_3 : Memref sig .tc .vmem S32x384 .f32 := Memref.whole cc0_scratch3
abbrev scM0_4 : Memref sig .tc .vmem S32x384 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: the definition's epilogue — `abstractNestedProofs` — walks it past the default budget)
set_option maxHeartbeats 7848000 in
/-- What the body's stores leave in each output's staging memref, as pieces (last first), with the proof that on whole
    staging memrefs (the inputs' at their contents, the buffer of the first output at `x10`, the other outputs' and the
    scratch at anything) the body runs to the continuation that holds the inputs' as they were and each output's buffer
    with its pieces written. The body loads the first output back, so its pieces and what follows from them are stated
    over the contents `x10` that it finds there. -/
noncomputable def kernelRun (c : Dev nD) (i : grid0.Coords) (arg1 : Memref sig .tc .vmem S1x384x8192 .fp8e4m3) (harg1 : arg1.IsWhole) (arg2 : Memref sig .tc .vmem S1x64x384 .f32) (harg2 : arg2.IsWhole) (arg3 : Memref sig .tc .vmem S8192x2048 .fp8e4m3) (harg3 : arg3.IsWhole) (arg4 : Memref sig .tc .smem S64x16 .f32) (harg4 : arg4.IsWhole) (arg5 : Memref sig .tc .vmem S1x384x2048 .bf16) (harg5 : arg5.IsWhole) (arg6 : Memref sig .tc .vmem S1x2048 .f32) (harg6 : arg6.IsWhole) (arg7 : Memref sig .tc .vmem S2048x3072 .fp8e4m3) (harg7 : arg7.IsWhole) (arg8 : Memref sig .tc .smem S16x24 .f32) (harg8 : arg8.IsWhole) (arg9 : Memref sig .tc .vmem S1x1x384 .i32) (harg9 : arg9.IsWhole) (arg10 : Memref sig .tc .vmem S32x1 .f32) (harg10 : arg10.IsWhole) (arg11 : Memref sig .tc .vmem S1x384x2048 .bf16) (harg11 : arg11.IsWhole) (arg12 : Memref sig .tc .vmem S1x32x64x384 .bf16) (harg12 : arg12.IsWhole) (arg13 : Memref sig .tc .vmem S1x8x64x384 .bf16) (harg13 : arg13.IsWhole) (arg14 : Memref sig .tc .vmem S1x8x64x384 .bf16) (harg14 : arg14.IsWhole) (arg15 : Memref sig .tc .vmem S1x384x2048 .fp8e4m3) (harg15 : arg15.IsWhole) (arg16 : Memref sig .tc .vmem S1x16x384 .f32) (harg16 : arg16.IsWhole) (arg17 : Memref sig .tc .vmem S384x8192 .bf16) (harg17 : arg17.IsWhole) (arg18 : Memref sig .tc .vmem S384x128 .f32) (harg18 : arg18.IsWhole) (arg19 : Memref sig .tc .vmem S384x2048 .bf16) (harg19 : arg19.IsWhole) (arg20 : Memref sig .tc .vmem S32x384 .f32) (harg20 : arg20.IsWhole) (arg21 : Memref sig .tc .vmem S32x384 .f32) (harg21 : arg21.IsWhole)
    (x0 : Vec F S1x384x8192 .fp8e4m3) (x1 : Vec F S1x64x384 .f32) (x2 : Vec F S8192x2048 .fp8e4m3) (x3 : Vec F S64x16 .f32) (x4 : Vec F S1x384x2048 .bf16) (x5 : Vec F S1x2048 .f32) (x6 : Vec F S2048x3072 .fp8e4m3) (x7 : Vec F S16x24 .f32) (x8 : Vec F S1x1x384 .i32) (x9 : Vec F S32x1 .f32) (x10 : Vec F S1x384x2048 .bf16) :
    Σ' (L10 : List (View.Piece (Elt F) S1x384x2048 .bf16)), Σ' (L11 : List (View.Piece (Elt F) S1x32x64x384 .bf16)), Σ' (L12 : List (View.Piece (Elt F) S1x8x64x384 .bf16)), Σ' (L13 : List (View.Piece (Elt F) S1x8x64x384 .bf16)), Σ' (L14 : List (View.Piece (Elt F) S1x384x2048 .fp8e4m3)), Σ' (L15 : List (View.Piece (Elt F) S1x16x384 .f32)), Σ' (LT2 : List (View.Piece (Elt F) S384x2048 .bf16)), Σ' (LT3 : List (View.Piece (Elt F) S32x384 .f32)), { LT4 : List (View.Piece (Elt F) S32x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (arg11.view.loc (c : Thread nD τ) ↦[arg11.view.set]{fullShare} arg11.view.writes (Elt F) (harg11.unread x10) L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LT2) ∗ (∃ f, arg20.view.loc (c : Thread nD τ) ↦[arg20.view.set]{fullShare} arg20.view.writes (Elt F) f LT3) ∗ (∃ f, arg21.view.loc (c : Thread nD τ) ↦[arg21.view.set]{fullShare} arg21.view.writes (Elt F) f LT4)) -∗ K ⟨⟩))
          ⊢ wp frame (wpE (defs₀ (F := F)) Variants.none c none) E (cc0_junction i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun E K => ?run⟩
  case run =>
    simp only [cc0_junction_eq_skeleton]; unfold cc0_junction_skel
    simp only [k0_part176_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part177_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part178_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]; · iexists _; iexact HS3
    iexists _; iexact HS4

end Cert.KernelIdeal.Hand

end
-- ==== Proof.Pieces.lean ====
/- The pieces that the body's run leaves in each output's buffer, in the vocabulary of `Words.lean`: the names that the run
   gave its values unfold to the terms there. -/
module

public import proofs.«01_k».proof.Proof.Words
public import proofs.«01_k».proof.Proof.Run

@[expose] public section

set_option maxRecDepth 16384

noncomputable section

namespace Cert.KernelIdeal.Hand

open Cert.KernelIdeal.Gen
open Idealize.ShloMosaic Idealize.SL.Sem Idealize.ShloMosaic.Tactic

variable {F : FTy → Type} [FloatOps F]

/-! ## Lists of pieces over the blocks -/

/-- The dequantised activation, 128 columns at a time, last first. -/
def hdPieces (X0 : Vec F S1x384x8192 .fp8e4m3) (X1 : Vec F S1x64x384 .f32) : List (View.Piece (Elt F) S384x8192 .bf16) :=
  List.ofFn fun n : Fin 64 => ⟨Rect.unit (s := S384x8192) ![0, 128 * (Fin.rev n).val] S384x128.size (inbHd (Fin.rev n)), hdPiece X0 X1 (Fin.rev n)⟩

/-- The sum of squares before the loop. -/
def ssq0 : List (View.Piece (Elt F) S384x128 .f32) :=
  [⟨Rect.unit (s := S384x128) ![0, 0] S384x128.size inb_S384x128_S384x128_0_0,
    shapeCast S384x128 (broadcast S384x128 (Scalar.ofBits .f32 0x00000000#32 : F .f32)) shapeCasts_S384x128_S384x128⟩]

/-- The codes, one run of 128 columns at a time. -/
def xcPieces (x : Fin 16 → FVec F S384x128 .f32) : List (View.Piece (Elt F) S1x384x2048 .fp8e4m3) :=
  List.ofFn fun n : Fin 16 => ⟨Rect.unit (s := S1x384x2048) ![0, 0, 128 * (Fin.rev n).val] S1x384x128.size (inbX (Fin.rev n)), xcPiece (x (Fin.rev n))⟩

/-- The runs read back from codes and scales. -/
def xdPieces (x : Fin 16 → FVec F S384x128 .f32) : List (View.Piece (Elt F) S384x2048 .bf16) :=
  List.ofFn fun n : Fin 16 => ⟨Rect.unit (s := S384x2048) ![0, 128 * (Fin.rev n).val] S384x128.size (inbXd (Fin.rev n)), xdPiece (x (Fin.rev n))⟩

/-- The turned tile that holds head `e` of the 48. -/
def headTile (A19 : Vec F S384x2048 .bf16) (X6 : Vec F S2048x3072 .fp8e4m3) (X7 : Vec F S16x24 .f32) (e : ℕ) (he : e < 48) : FVec F S256x384 .f32 :=
  atTile A19 X6 X7 ⟨2 * (e / 4), by omega⟩ ⟨2 * (e / 4) + 1, by omega⟩

/-- The query heads' halves: query head `h` is head `6 * (h / 4) + h % 4` of the 48. -/
def qPieces (cs sn : Vec F S32x384 .f32) (A19 : Vec F S384x2048 .bf16) (X6 : Vec F S2048x3072 .fp8e4m3) (X7 : Vec F S16x24 .f32) :
    List (View.Piece (Elt F) S1x32x64x384 .bf16) :=
  List.ofFn fun n : Fin 64 =>
    ⟨Rect.unit (s := S1x32x64x384) ![0, (Fin.rev n).val / 2, 32 * ((Fin.rev n).val % 2), 0] S1x1x32x384.size
        (inbQ ⟨(Fin.rev n).val / 2, by omega⟩ ⟨(Fin.rev n).val % 2, by omega⟩),
      ropePiece cs sn (headTile A19 X6 X7 (6 * ((Fin.rev n).val / 2 / 4) + (Fin.rev n).val / 2 % 4) (by omega))
        ⟨(6 * ((Fin.rev n).val / 2 / 4) + (Fin.rev n).val / 2 % 4) % 4, by omega⟩ ⟨(Fin.rev n).val % 2, by omega⟩⟩

/-- The key heads' halves: key head `h` is head `6 * h + 4` of the 48. -/
def kPieces (cs sn : Vec F S32x384 .f32) (A19 : Vec F S384x2048 .bf16) (X6 : Vec F S2048x3072 .fp8e4m3) (X7 : Vec F S16x24 .f32) :
    List (View.Piece (Elt F) S1x8x64x384 .bf16) :=
  List.ofFn fun n : Fin 16 =>
    ⟨Rect.unit (s := S1x8x64x384) ![0, (Fin.rev n).val / 2, 32 * ((Fin.rev n).val % 2), 0] S1x1x32x384.size
        (inbK ⟨(Fin.rev n).val / 2, by omega⟩ ⟨(Fin.rev n).val % 2, by omega⟩),
      ropePiece cs sn (headTile A19 X6 X7 (6 * ((Fin.rev n).val / 2) + 4) (by omega))
        ⟨(6 * ((Fin.rev n).val / 2) + 4) % 4, by omega⟩ ⟨(Fin.rev n).val % 2, by omega⟩⟩

/-- The value heads' halves: value head `h` is head `6 * h + 5` of the 48. -/
def vPieces (A19 : Vec F S384x2048 .bf16) (X6 : Vec F S2048x3072 .fp8e4m3) (X7 : Vec F S16x24 .f32) :
    List (View.Piece (Elt F) S1x8x64x384 .bf16) :=
  List.ofFn fun n : Fin 16 =>
    ⟨Rect.unit (s := S1x8x64x384) ![0, (Fin.rev n).val / 2, 32 * ((Fin.rev n).val % 2), 0] S1x1x32x384.size
        (inbK ⟨(Fin.rev n).val / 2, by omega⟩ ⟨(Fin.rev n).val % 2, by omega⟩),
      vPiece (headTile A19 X6 X7 (6 * ((Fin.rev n).val / 2) + 5) (by omega))
        ⟨(6 * ((Fin.rev n).val / 2) + 5) % 4, by omega⟩ ⟨(Fin.rev n).val % 2, by omega⟩⟩

/-- The cosines and the sines of the angles. -/
def csPieces (X8 : Vec F S1x1x384 .i32) (X9 : Vec F S32x1 .f32) : List (View.Piece (Elt F) S32x384 .f32) :=
  [⟨Rect.unit (s := S32x384) ![0, 0] S32x384.size inb_S32x384_S32x384_0_0, shapeCast S32x384 (cos (thetaW X8 X9)) shapeCasts_S32x384_S32x384⟩]
/-- The one store of the sines. -/
def snPieces (X8 : Vec F S1x1x384 .i32) (X9 : Vec F S32x1 .f32) : List (View.Piece (Elt F) S32x384 .f32) :=
  [⟨Rect.unit (s := S32x384) ![0, 0] S32x384.size inb_S32x384_S32x384_0_0, shapeCast S32x384 (sin (thetaW X8 X9)) shapeCasts_S32x384_S32x384⟩]

/-! ## What the run leaves -/

variable  (c : Dev nD) (i : grid0.Coords) (arg1 : Memref sig .tc .vmem S1x384x8192 .fp8e4m3) (harg1 : arg1.IsWhole) (arg2 : Memref sig .tc .vmem S1x64x384 .f32) (harg2 : arg2.IsWhole) (arg3 : Memref sig .tc .vmem S8192x2048 .fp8e4m3) (harg3 : arg3.IsWhole) (arg4 : Memref sig .tc .smem S64x16 .f32) (harg4 : arg4.IsWhole) (arg5 : Memref sig .tc .vmem S1x384x2048 .bf16) (harg5 : arg5.IsWhole) (arg6 : Memref sig .tc .vmem S1x2048 .f32) (harg6 : arg6.IsWhole) (arg7 : Memref sig .tc .vmem S2048x3072 .fp8e4m3) (harg7 : arg7.IsWhole) (arg8 : Memref sig .tc .smem S16x24 .f32) (harg8 : arg8.IsWhole) (arg9 : Memref sig .tc .vmem S1x1x384 .i32) (harg9 : arg9.IsWhole) (arg10 : Memref sig .tc .vmem S32x1 .f32) (harg10 : arg10.IsWhole) (arg11 : Memref sig .tc .vmem S1x384x2048 .bf16) (harg11 : arg11.IsWhole) (arg12 : Memref sig .tc .vmem S1x32x64x384 .bf16) (harg12 : arg12.IsWhole) (arg13 : Memref sig .tc .vmem S1x8x64x384 .bf16) (harg13 : arg13.IsWhole) (arg14 : Memref sig .tc .vmem S1x8x64x384 .bf16) (harg14 : arg14.IsWhole) (arg15 : Memref sig .tc .vmem S1x384x2048 .fp8e4m3) (harg15 : arg15.IsWhole) (arg16 : Memref sig .tc .vmem S1x16x384 .f32) (harg16 : arg16.IsWhole) (arg17 : Memref sig .tc .vmem S384x8192 .bf16) (harg17 : arg17.IsWhole) (arg18 : Memref sig .tc .vmem S384x128 .f32) (harg18 : arg18.IsWhole) (arg19 : Memref sig .tc .vmem S384x2048 .bf16) (harg19 : arg19.IsWhole) (arg20 : Memref sig .tc .vmem S32x384 .f32) (harg20 : arg20.IsWhole) (arg21 : Memref sig .tc .vmem S32x384 .f32) (harg21 : arg21.IsWhole)
    (x0 : Vec F S1x384x8192 .fp8e4m3) (x1 : Vec F S1x64x384 .f32) (x2 : Vec F S8192x2048 .fp8e4m3) (x3 : Vec F S64x16 .f32) (x4 : Vec F S1x384x2048 .bf16) (x5 : Vec F S1x2048 .f32) (x6 : Vec F S2048x3072 .fp8e4m3) (x7 : Vec F S16x24 .f32) (x8 : Vec F S1x1x384 .i32) (x9 : Vec F S32x1 .f32) (x10 : Vec F S1x384x2048 .bf16)

/-- The loop's pieces over all eight trips, from what the body has stored before it. -/
def loopPieces : List (View.Piece (Elt F) S1x384x2048 .bf16) × List (View.Piece (Elt F) S384x128 .f32) :=
  pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    (k0_pay222 (k0_pay141 (View.ld (arg2.view.read (Elt F) (harg2.unread x1)) (Rect.unit (s := S1x64x384) ![0, 0, 0] S1x64x384.size inb_S1x64x384_S1x64x384_0_0_0))))
    (harg3.unread x2) (harg4.unread x3) (harg5.unread x4)
    (arg17.view.writes (Elt F) arg17.view.junk (hdPieces (arg1.view.read (Elt F) (harg1.unread x0)) (arg2.view.read (Elt F) (harg2.unread x1))))
    (harg11.unread x10) (arg18.view.writes (Elt F) arg18.view.junk ssq0) 8

/-- The first output's buffer after the loop, as the body reads it back. -/
def roBuf : Vec F S1x384x2048 .bf16 :=
  arg11.view.read (Elt F) (arg11.view.writes (Elt F) (harg11.unread x10)
    (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).1)

/-- The sums of squares after the loop, as the body reads them back. -/
def ssBuf : Vec F S384x128 .f32 :=
  arg18.view.readCov ((loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).2 ++ ssq0)
    (Rect.unit (s := S384x128) ![0, 0] S384x128.size inb_S384x128_S384x128_0_0).toLoadRect

/-- The normed rows, one run of 128 columns at a time. -/
def xBuf (g : Fin 16) : FVec F S384x128 .f32 :=
  xGrp (roBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10) (ssBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10) (arg6.view.read (Elt F) (harg6.unread x5)) g

/-- What the projection reads: the runs read back from codes and scales, the cosines and the sines. -/
def xdBuf : Vec F S384x2048 .bf16 :=
  arg19.view.readCov (xdPieces (xBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10)) (Rect.unit (s := S384x2048) ![0, 0] S384x2048.size inb_S384x2048_S384x2048_0_0).toLoadRect
/-- The cosines as they are read back. -/
def csBuf : Vec F S32x384 .f32 :=
  arg20.view.readCov (csPieces (arg9.view.read (Elt F) (harg9.unread x8)) (arg10.view.read (Elt F) (harg10.unread x9)))
    (Rect.unit (s := S32x384) ![0, 0] S32x384.size inb_S32x384_S32x384_0_0).toLoadRect
/-- The sines as they are read back. -/
def snBuf : Vec F S32x384 .f32 :=
  arg21.view.readCov (snPieces (arg9.view.read (Elt F) (harg9.unread x8)) (arg10.view.read (Elt F) (harg10.unread x9)))
    (Rect.unit (s := S32x384) ![0, 0] S32x384.size inb_S32x384_S32x384_0_0).toLoadRect

/-- What the run leaves in the first result's buffer; the five lemmas after it say the same of the other results. -/
theorem run_ro : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 = (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).1 := by sl_kernel_rfl

theorem run_q : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1 =
    qPieces (csBuf arg9 harg9 arg10 harg10 arg20 x8 x9) (snBuf arg9 harg9 arg10 harg10 arg21 x8 x9)
      (xdBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) (arg7.view.read (Elt F) (harg7.unread x6)) (arg8.view.read (Elt F) (harg8.unread x7)) := by sl_kernel_rfl

theorem run_k : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1 =
    kPieces (csBuf arg9 harg9 arg10 harg10 arg20 x8 x9) (snBuf arg9 harg9 arg10 harg10 arg21 x8 x9)
      (xdBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) (arg7.view.read (Elt F) (harg7.unread x6)) (arg8.view.read (Elt F) (harg8.unread x7)) := by sl_kernel_rfl

theorem run_v : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1 =
    vPieces (xdBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) (arg7.view.read (Elt F) (harg7.unread x6)) (arg8.view.read (Elt F) (harg8.unread x7)) := by sl_kernel_rfl

theorem run_xc : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1 = xcPieces (xBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) := by sl_kernel_rfl

theorem run_xs : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1 =
    [⟨Rect.unit (s := S1x16x384) ![0, 0, 0] S1x16x384.size inb_S1x16x384_S1x16x384_0_0_0,
      xsPiece fun g => scaleOf (expBits (yGrp (xBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10 g)))⟩] := by sl_kernel_rfl

end Cert.KernelIdeal.Hand

end
-- ==== Proof.Loop.lean ====
/- Pieces read back, over the reals: tiles of one function are that function, and what the loop over column tiles leaves. -/
module

public import proofs.«01_k».proof.Proof.Meaning
public import proofs.«01_k».proof.Proof.Pieces

@[expose] public section

set_option maxRecDepth 16384

noncomputable section

namespace Cert.KernelIdeal.Hand

open Cert.KernelIdeal.Gen
open Idealize.ShloMosaic Idealize.SL.Sem

/-! ## Where a rectangle's elements lie -/

/-- Where an element of a cut lies in the whole, in two, three and four axes. -/
theorem emb2 {A B a b o0 o1 : ℕ} (inb) (s : Fin a) (l : Fin b) (h0 : o0 + s.val < A) (h1 : o1 + l.val < B) :
    (Rect.unit (s := ⟨2, ![A, B]⟩) ![o0, o1] ![a, b] inb).emb (ix2 s l) = ix2 ⟨o0 + s.val, h0⟩ ⟨o1 + l.val, h1⟩ := by
  funext c
  refine Fin.ext ((Rect.idx_unit_val (s := ⟨2, ![A, B]⟩) ![o0, o1] ![a, b] inb (ix2 s l) c).trans ?_)
  fin_cases c <;> rfl

theorem emb3 {A B C a b c o0 o1 o2 : ℕ} (inb) (s : Fin a) (l : Fin b) (k : Fin c) (h0 : o0 + s.val < A) (h1 : o1 + l.val < B) (h2 : o2 + k.val < C) :
    (Rect.unit (s := ⟨3, ![A, B, C]⟩) ![o0, o1, o2] ![a, b, c] inb).emb (ix3 s l k) = ix3 ⟨o0 + s.val, h0⟩ ⟨o1 + l.val, h1⟩ ⟨o2 + k.val, h2⟩ := by
  funext d
  refine Fin.ext ((Rect.idx_unit_val (s := ⟨3, ![A, B, C]⟩) ![o0, o1, o2] ![a, b, c] inb (ix3 s l k) d).trans ?_)
  fin_cases d <;> rfl

theorem emb4 {A B C D a b c d o0 o1 o2 o3 : ℕ} (inb) (s : Fin a) (l : Fin b) (k : Fin c) (r : Fin d) (h0 : o0 + s.val < A) (h1 : o1 + l.val < B)
    (h2 : o2 + k.val < C) (h3 : o3 + r.val < D) :
    (Rect.unit (s := ⟨4, ![A, B, C, D]⟩) ![o0, o1, o2, o3] ![a, b, c, d] inb).emb (ix4 s l k r) =
      ix4 ⟨o0 + s.val, h0⟩ ⟨o1 + l.val, h1⟩ ⟨o2 + k.val, h2⟩ ⟨o3 + r.val, h3⟩ := by
  funext e
  refine Fin.ext ((Rect.idx_unit_val (s := ⟨4, ![A, B, C, D]⟩) ![o0, o1, o2, o3] ![a, b, c, d] inb (ix4 s l k r) e).trans ?_)
  fin_cases e <;> rfl

/-- The zero offset, written out. -/
theorem zeros2 : (![0, 0] : Fin 2 → ℕ) = fun _ => 0 := by funext a; fin_cases a <;> rfl
theorem zeros3 : (![0, 0, 0] : Fin 3 → ℕ) = fun _ => 0 := by funext a; fin_cases a <;> rfl

/-! ## The dequantised activation -/

/-- The 64 stores cover the dequantised activation. -/
theorem hdPieces_cover (X0 : Vec Ideal S1x384x8192 .fp8e4m3) (X1 : Vec Ideal S1x64x384 .f32) (y : S384x8192.Idx) :
    ∃ p ∈ hdPieces X0 X1, y ∈ p.1.set := by
  idx_vars y
  refine ⟨_, (List.mem_ofFn).mpr ⟨Fin.rev ⟨y1.val / 128, by omega⟩, rfl⟩, ?_⟩
  rw [Rect.mem_set_unit]
  intro a
  fin_cases a
  · simp
  · simp; omega

/-- The dequantised activation, read back. -/
theorem hdPieces_canon (X0 : Vec Ideal S1x384x8192 .fp8e4m3) (X1 : Vec Ideal S1x64x384 .f32) (s : Fin 384) (f : Fin 8192) :
    View.canon (hdPieces X0 X1) (ix2 s f) = X0 (ix3 0 s f) * X1 (ix3 0 ⟨f.val / 128, by omega⟩ s) := by
  refine View.canon_apply_of_pieces (fun j : S384x8192.Idx => X0 (ix3 0 (j 0) (j 1)) * X1 (ix3 0 ⟨(j 1).val / 128, by have : (j 1).val < 8192 := (j 1).isLt; omega⟩ (j 0))) _ ?_ _
    (hdPieces_cover X0 X1 _)
  intro p hp x
  obtain ⟨n, rfl⟩ := (List.mem_ofFn).mp hp
  obtain ⟨a, b, rfl⟩ : ∃ (a : Fin 384) (b : Fin 128), x = ix2 a b := ⟨x 0, x 1, eq_ix2 x⟩
  refine (hdPiece_apply X0 X1 (Fin.rev n) a b).trans ?_
  have e := emb2 (A := 384) (B := 8192) (inbHd (Fin.rev n)) a b (by omega) (by have := (Fin.rev n).isLt; omega)
  simp only [e, ix2_0, ix2_1]
  congr 3
  · exact Fin.ext (by simp)
  · exact Fin.ext (by simp only; omega)
  · exact Fin.ext (by simp)

/-! ## The loop -/

/-- Column `l`'s and column `128 + l`'s squares in tile `k`. -/
def sqAt (val : Fin 384 → Fin 2048 → EReal) (s : Fin 384) (l : Fin 128) (k : Fin 8) : EReal :=
  val s ⟨256 * k.val + l.val, by omega⟩ * val s ⟨256 * k.val + l.val, by omega⟩ +
    val s ⟨256 * k.val + (128 + l.val), by omega⟩ * val s ⟨256 * k.val + (128 + l.val), by omega⟩

/-- What any number of trips leave in the running sums and in the first result. -/
theorem loop_meaning {sig : RefSig} {κ : Kind} {sp : Space} (v : View sig κ sp S384x128 .f32) (G : v.ty.Contents (Elt Ideal))
    (hG : ∀ s l, v.read (Elt Ideal) G (ix2 s l) = 0)
    (pb : ℕ → List (View.Piece (Elt Ideal) S1x384x2048 .bf16) × List (View.Piece (Elt Ideal) S384x128 .f32)) (h0 : pb 0 = ([], []))
    (Y : Fin 8 → FVec Ideal S384x256 .bf16)
    (hs1 : ∀ k : Fin 8, (pb (k.val + 1)).1 =
      ⟨Rect.unit (s := S1x384x2048) ![0, 0, 256 * k.val] S1x384x256.size (inbY k), shapeCast S1x384x256 (Y k) shapeCasts_S384x256_S1x384x256⟩ :: (pb k.val).1)
    (hs2 : ∀ k : Fin 8, (pb (k.val + 1)).2 =
       ⟨Rect.unit (s := S384x128) ![0, 0] S384x128.size inb_S384x128_S384x128_0_0,
          ssqStep (Y k) (View.ld (v.read (Elt Ideal) (v.writes (Elt Ideal) G (pb k.val).2)) (Rect.unit (s := S384x128) ![0, 0] S384x128.size inb_S384x128_S384x128_0_0))⟩ :: (pb k.val).2)
    (val : Fin 384 → Fin 2048 → EReal) (hY : ∀ k s (l : Fin 256), Y k (ix2 s l) = val s ⟨256 * k.val + l.val, by omega⟩) :
    ∀ n, n ≤ 8 →
      (∀ p ∈ (pb n).1, ∀ x, p.2 x = (fun j : S1x384x2048.Idx => val (j 1) (j 2)) (p.1.emb x)) ∧
      (∀ y : S1x384x2048.Idx, (y 2).val < 256 * n → ∃ p ∈ (pb n).1, y ∈ p.1.set) ∧
      ∀ s l, v.read (Elt Ideal) (v.writes (Elt Ideal) G (pb n).2) (ix2 s l) = ∑ k : Fin 8, if k.val < n then sqAt val s l k else 0 := by
  intro n
  induction n with
  | zero =>
    intro _
    rw [h0]
    refine ⟨fun p hp => absurd hp List.not_mem_nil, fun y hy => absurd hy (by omega), fun s l => ?_⟩
    simp only [View.writes_nil, hG, Nat.not_lt_zero, if_false, Finset.sum_const_zero]
  | succ n ih =>
    intro hn
    obtain ⟨i1, i2, i3⟩ := ih (by omega)
    rw [hs1 ⟨n, by omega⟩, hs2 ⟨n, by omega⟩]
    refine ⟨?_, ?_, ?_⟩
    · intro p hp x
      rw [List.mem_cons] at hp
      rcases hp with rfl | hp
      · obtain ⟨z, a, b, rfl⟩ : ∃ (z : Fin 1) (a : Fin 384) (b : Fin 256), x = ix3 z a b := ⟨x 0, x 1, x 2, eq_ix3 x⟩
        have e := emb3 (A := 1) (B := 384) (C := 2048) (inbY ⟨n, by omega⟩) z a b (by omega) (by omega) (by simp only; omega)
        simp only [e, ix3_1, ix3_2]
        have : shapeCast S1x384x256 (Y ⟨n, by omega⟩) shapeCasts_S384x256_S1x384x256 (ix3 z a b) = Y ⟨n, by omega⟩ (ix2 a b) := by pointwise
        refine this.trans ((hY _ _ _).trans ?_)
        congr 1
        exact Fin.ext (by simp)
      · exact i1 p hp x
    · intro y hy
      by_cases hc : (y 2).val < 256 * n
      · obtain ⟨p, hp, hm⟩ := i2 y hc
        exact ⟨p, List.mem_cons_of_mem _ hp, hm⟩
      · refine ⟨_, List.mem_cons_self, ?_⟩
        rw [Rect.mem_set_unit]
        idx_vars y
        change y2.val < 256 * (n + 1) at hy
        change ¬ y2.val < 256 * n at hc
        intro a
        fin_cases a
        · simp
        · simp
        · simp; omega
    · intro s l
      refine (congrFun (View.read_writes_eq_canon _ _ _ (fun y => ⟨_, List.mem_cons_self, View.mem_set_unit_zero zeros2 inb_S384x128_S384x128_0_0 y⟩)) _).trans ?_
      refine (congrFun (View.canon_cons_unit_zero zeros2 _ _ _) _).trans ?_
      rw [View.ld_unit_zero zeros2, ssqStep_apply, i3, hY, hY]
      rw [← Finset.sum_erase_add _ _ (Finset.mem_univ (⟨n, by omega⟩ : Fin 8)), ← Finset.sum_erase_add _ _ (Finset.mem_univ (⟨n, by omega⟩ : Fin 8))]
      simp only [Nat.lt_irrefl, if_false, add_zero, Nat.lt_succ_self, if_true]
      congr 1
      refine Finset.sum_congr rfl fun k hk => ?_
      have : k.val ≠ n := fun h => (Finset.mem_erase.mp hk).1 (Fin.ext h)
      by_cases hc : k.val < n
      · rw [if_pos hc, if_pos (by omega)]
      · rw [if_neg hc, if_neg (by omega)]

/-- The sums of squares summed over the lanes: the whole row's. -/
theorem sum_sqAt (val : Fin 384 → Fin 2048 → EReal) (s : Fin 384) :
    ∑ l : Fin 128, ∑ k : Fin 8, sqAt val s l k = ∑ d : Fin 2048, val s d * val s d := by
  rw [Finset.sum_comm]
  have h : ∀ (f : Fin 2048 → EReal), ∑ d, f d = ∑ k : Fin 8, ∑ l : Fin 256, f ⟨256 * k.val + l.val, by omega⟩ := by
    intro f
    rw [← Fintype.sum_prod_type' (fun (k : Fin 8) (l : Fin 256) => f ⟨256 * k.val + l.val, by omega⟩)]
    refine (Equiv.sum_comp (finProdFinEquiv (m := 8) (n := 256)) f).symm.trans ?_
    refine Finset.sum_congr rfl fun p _ => ?_
    congr 1
    exact Fin.ext (by simp [finProdFinEquiv]; omega)
  rw [h]
  refine Finset.sum_congr rfl fun k _ => ?_
  rw [Fin.sum_univ_add (a := 128) (b := 128) (fun l : Fin (128 + 128) => val s ⟨256 * k.val + l.val, by omega⟩ * val s ⟨256 * k.val + l.val, by omega⟩),
    ← Finset.sum_add_distrib]
  rfl

end Cert.KernelIdeal.Hand

end
-- ==== Proof.Canon.lean ====
/- What the stores after the loop leave, over the reals, given what the normed rows are. -/
module

public import proofs.«01_k».proof.Proof.Spec
public import proofs.«01_k».proof.Proof.Loop

@[expose] public section

set_option maxRecDepth 16384

noncomputable section

namespace Cert.KernelIdeal.Hand

open Cert.KernelIdeal.Gen
open Idealize.ShloMosaic Idealize.SL.Sem

section rows

/-- A column of a run is a column of the row. -/
theorem lt128 (g : Fin 16) (l : Fin 128) : 128 * g.val + l.val < 2048 := by omega

/-- The sixteen stores cover the codes. -/
theorem xc_cover (x : Fin 16 → FVec Ideal S384x128 .f32) (y : S1x384x2048.Idx) : ∃ p ∈ xcPieces x, y ∈ p.1.set := by
  idx_vars y
  refine ⟨_, (List.mem_ofFn).mpr ⟨Fin.rev ⟨y2.val / 128, by omega⟩, rfl⟩, ?_⟩
  rw [Rect.mem_set_unit]
  intro a
  fin_cases a
  · simp
  · simp
  · simp; omega

variable (x : Fin 16 → FVec Ideal S384x128 .f32) (xv : Fin 384 → Fin 2048 → EReal)
  (hx : ∀ g s (l : Fin 128), x g (ix2 s l) = xv s ⟨128 * g.val + l.val, lt128 g l⟩)

include hx

/-- The magnitude of a run is the plain one. -/
theorem yGrp_spec (g : Fin 16) (s : Fin 384) (l : Fin 128) : yGrp (x g) (ix2 s l) = Spec.amax xv s g := by
  rw [yGrp_apply]
  simp only [hx]
  rfl

/-- The codes of a run are the plain ones. -/
theorem codeGrp_spec (g : Fin 16) (s : Fin 384) (l : Fin 128) :
    codeGrp (x g) (ix2 s l) = Spec.code inv1 xv s ⟨128 * g.val + l.val, by omega⟩ := by
  rw [codeGrp_apply, yGrp_spec x xv hx, hx]
  have e : (⟨(128 * g.val + l.val) / 128, by omega⟩ : Fin 16) = g := Fin.ext (by simp only; omega)
  unfold Spec.code
  rw [e]

/-- The run read back is the plain one. -/
theorem xdPiece_spec (g : Fin 16) (s : Fin 384) (l : Fin 128) :
    xdPiece (x g) (ix2 s l) = Spec.xd inv1 scale1 xv s ⟨128 * g.val + l.val, by omega⟩ := by
  rw [xdPiece_apply, yGrp_spec x xv hx, codeGrp_spec x xv hx]
  have e : (⟨(128 * g.val + l.val) / 128, by omega⟩ : Fin 16) = g := Fin.ext (by simp only; omega)
  unfold Spec.xd
  rw [e]

/-- The codes as left. -/
theorem xc_canon (s : Fin 384) (d : Fin 2048) : View.canon (xcPieces x) (ix3 0 s d) = Spec.code inv1 xv s d := by
  refine View.canon_apply_of_pieces (Val := Elt Ideal) (e := .fp8e4m3) (fun j : S1x384x2048.Idx => Spec.code inv1 xv (j 1) (j 2)) _ ?_ _ ?_
  · intro p hp y
    obtain ⟨n, rfl⟩ := (List.mem_ofFn).mp hp
    obtain ⟨z, a, b, rfl⟩ : ∃ (z : Fin 1) (a : Fin 384) (b : Fin 128), y = ix3 z a b := ⟨y 0, y 1, y 2, eq_ix3 y⟩
    obtain rfl : z = 0 := Fin.ext (by omega)
    refine (xcPiece_apply _ a b).trans ((codeGrp_spec x xv hx (Fin.rev n) a b).trans ?_)
    have e := emb3 (A := 1) (B := 384) (C := 2048) (inbX (Fin.rev n)) 0 a b (by simp) (by omega) (by have := (Fin.rev n).isLt; omega)
    simp only [e, ix3_1, ix3_2]
    congr 1
    exact Fin.ext (by simp)
  · exact xc_cover x _

/-- The sixteen stores cover the rows read back. -/
theorem xd_cover (y : S384x2048.Idx) : ∃ p ∈ xdPieces x, y ∈ p.1.set := by
  idx_vars y
  refine ⟨_, (List.mem_ofFn).mpr ⟨Fin.rev ⟨y1.val / 128, by omega⟩, rfl⟩, ?_⟩
  rw [Rect.mem_set_unit]
  intro a
  fin_cases a
  · simp
  · simp; omega

/-- The rows read back, as left. -/
theorem xd_canon (s : Fin 384) (d : Fin 2048) : View.canon (xdPieces x) (ix2 s d) = Spec.xd inv1 scale1 xv s d := by
  refine View.canon_apply_of_pieces (Val := Elt Ideal) (e := .bf16) (fun j : S384x2048.Idx => Spec.xd inv1 scale1 xv (j 0) (j 1)) _ ?_ _ (xd_cover x xv hx _)
  intro p hp y
  obtain ⟨n, rfl⟩ := (List.mem_ofFn).mp hp
  obtain ⟨a, b, rfl⟩ : ∃ (a : Fin 384) (b : Fin 128), y = ix2 a b := ⟨y 0, y 1, eq_ix2 y⟩
  refine (xdPiece_spec x xv hx (Fin.rev n) a b).trans ?_
  have e := emb2 (A := 384) (B := 2048) (inbXd (Fin.rev n)) a b (by omega) (by have := (Fin.rev n).isLt; omega)
  simp only [e, ix2_0, ix2_1]
  congr 1
  exact Fin.ext (by simp)

/-- The scales as left. -/
theorem xs_canon (s : Fin 384) (g : Fin 16) :
    View.canon [(⟨Rect.unit (s := S1x16x384) ![0, 0, 0] S1x16x384.size inb_S1x16x384_S1x16x384_0_0_0,
      xsPiece (F := Ideal) fun g => scaleOf (F := Ideal) (expBits (yGrp (x g)))⟩ : View.Piece (Elt Ideal) S1x16x384 .f32)] (ix3 0 g s) = scale1 (Spec.amax xv s g) := by
  rw [View.canon_unit_zero zeros3, xsPiece_apply, scaleOf_apply, yGrp_spec x xv hx]

end rows

section heads

variable (A19 : Vec Ideal S384x2048 .bf16) (X6 : Vec Ideal S2048x3072 .fp8e4m3) (X7 : Vec Ideal S16x24 .f32)

/-- The projection of what the body reads back. -/
def qkvOf (s : Fin 384) (n : Fin 3072) : EReal :=
  Spec.qkv (fun s d => A19 (ix2 s d)) (fun d n => X6 (ix2 d n)) (fun k n => X7 (ix2 k n)) s n

/-- A tile of the qkv projection is the plain one. -/
theorem headTile_spec (e : ℕ) (he : e < 48) (l : Fin 256) (s : Fin 384) :
    headTile A19 X6 X7 e he (ix2 l s) = qkvOf A19 X6 X7 s ⟨256 * (e / 4) + l.val, by omega⟩ :=
  headTile_apply A19 X6 X7 (e / 4) (by omega) l s

variable (cs sn : Vec Ideal S32x384 .f32)

/-- The turned heads. -/
def ropeOf (s : Fin 384) (e : Fin 48) (d : Fin 64) : EReal :=
  Spec.rope (qkvOf A19 X6 X7) (fun s i => cs (ix2 i s)) (fun s i => sn (ix2 i s)) s e d

/-- A rotated head is the plain one. -/
theorem rope_spec (e : ℕ) (he : e < 48) (b : ℕ) (hb : b < 2) (d : Fin 32) (s : Fin 384) :
    ropePiece cs sn (headTile A19 X6 X7 e he) ⟨e % 4, by omega⟩ ⟨b, hb⟩ (ix4 0 0 d s) =
      ropeOf A19 X6 X7 cs sn s ⟨e, he⟩ ⟨32 * b + d.val, by omega⟩ := by
  have hd := d.isLt
  unfold ropeOf Spec.rope
  obtain rfl | rfl : b = 0 ∨ b = 1 := by omega
  · rw [dif_pos (by simp only; omega)]
    refine (ropePiece0_apply cs sn _ _ d s).trans ?_
    rw [headTile_spec, headTile_spec]
    congr 3 <;> (first | (congr 1; exact Fin.ext (by first | omega | (simp only; omega))) | exact Fin.ext (by first | omega | (simp only; omega)))
  · rw [dif_neg (by simp only; omega)]
    refine (ropePiece1_apply cs sn _ _ d s).trans ?_
    rw [headTile_spec, headTile_spec]
    congr 3 <;> (first | (congr 1; exact Fin.ext (by first | omega | (simp only; omega))) | exact Fin.ext (by first | omega | (simp only; omega)))

/-- A v head is the plain one. -/
theorem v_spec (e : ℕ) (he : e < 48) (b : Fin 2) (d : Fin 32) (s : Fin 384) :
    vPiece (headTile A19 X6 X7 e he) ⟨e % 4, by omega⟩ b (ix4 0 0 d s) =
      qkvOf A19 X6 X7 s ⟨64 * e + 32 * b.val + d.val, by omega⟩ := by
  rw [vPiece_apply, headTile_spec]
  congr 1
  exact Fin.ext (by first | omega | (simp only; omega))

/-- The stores cover q. -/
theorem q_cover (y : S1x32x64x384.Idx) : ∃ p ∈ qPieces cs sn A19 X6 X7, y ∈ p.1.set := by
  idx_vars y
  refine ⟨_, (List.mem_ofFn).mpr ⟨Fin.rev ⟨2 * y1.val + y2.val / 32, by omega⟩, rfl⟩, ?_⟩
  rw [Rect.mem_set_unit]
  intro a
  fin_cases a <;> simp <;> omega

/-- The rotated q as left. -/
theorem q_canon (h : Fin 32) (d : Fin 64) (s : Fin 384) :
    View.canon (qPieces cs sn A19 X6 X7) (ix4 0 h d s) = ropeOf A19 X6 X7 cs sn s ⟨6 * (h.val / 4) + h.val % 4, by omega⟩ d := by
  refine View.canon_apply_of_pieces (Val := Elt Ideal) (e := .bf16) (fun j : S1x32x64x384.Idx => ropeOf A19 X6 X7 cs sn (j 3)
    ⟨6 * ((j 1).val / 4) + (j 1).val % 4, by have : (j 1).val < 32 := (j 1).isLt; omega⟩ (j 2)) _ ?_ _ ?_
  · intro p hp y
    obtain ⟨n, rfl⟩ := (List.mem_ofFn).mp hp
    obtain ⟨z, z', a, b, rfl⟩ : ∃ (z z' : Fin 1) (a : Fin 32) (b : Fin 384), y = ix4 z z' a b := ⟨y 0, y 1, y 2, y 3, eq_ix4 y⟩
    obtain rfl : z = 0 := Fin.ext (by omega)
    obtain rfl : z' = 0 := Fin.ext (by omega)
    refine (rope_spec A19 X6 X7 cs sn _ _ _ _ a b).trans ?_
    have hn := (Fin.rev n).isLt
    have e := emb4 (A := 1) (B := 32) (C := 64) (D := 384) (inbQ ⟨(Fin.rev n).val / 2, by omega⟩ ⟨(Fin.rev n).val % 2, by omega⟩) 0 0 a b (by simp) (by simp; omega) (by simp only; omega) (by omega)
    simp only [e, ix4_1, ix4_2, ix4_3]
    congr 1
    · exact Fin.ext (by simp)
  · exact q_cover A19 X6 X7 cs sn _

/-- The stores cover k. -/
theorem k_cover (y : S1x8x64x384.Idx) : ∃ p ∈ kPieces cs sn A19 X6 X7, y ∈ p.1.set := by
  idx_vars y
  refine ⟨_, (List.mem_ofFn).mpr ⟨Fin.rev ⟨2 * y1.val + y2.val / 32, by omega⟩, rfl⟩, ?_⟩
  rw [Rect.mem_set_unit]
  intro a
  fin_cases a <;> simp <;> omega

/-- The rotated k as left. -/
theorem k_canon (h : Fin 8) (d : Fin 64) (s : Fin 384) :
    View.canon (kPieces cs sn A19 X6 X7) (ix4 0 h d s) = ropeOf A19 X6 X7 cs sn s ⟨6 * h.val + 4, by omega⟩ d := by
  refine View.canon_apply_of_pieces (Val := Elt Ideal) (e := .bf16) (fun j : S1x8x64x384.Idx => ropeOf A19 X6 X7 cs sn (j 3)
    ⟨6 * (j 1).val + 4, by have : (j 1).val < 8 := (j 1).isLt; omega⟩ (j 2)) _ ?_ _ ?_
  · intro p hp y
    obtain ⟨n, rfl⟩ := (List.mem_ofFn).mp hp
    obtain ⟨z, z', a, b, rfl⟩ : ∃ (z z' : Fin 1) (a : Fin 32) (b : Fin 384), y = ix4 z z' a b := ⟨y 0, y 1, y 2, y 3, eq_ix4 y⟩
    obtain rfl : z = 0 := Fin.ext (by omega)
    obtain rfl : z' = 0 := Fin.ext (by omega)
    refine (rope_spec A19 X6 X7 cs sn _ _ _ _ a b).trans ?_
    have hn := (Fin.rev n).isLt
    have e := emb4 (A := 1) (B := 8) (C := 64) (D := 384) (inbK ⟨(Fin.rev n).val / 2, by omega⟩ ⟨(Fin.rev n).val % 2, by omega⟩) 0 0 a b (by simp) (by simp; omega) (by simp only; omega) (by omega)
    simp only [e, ix4_1, ix4_2, ix4_3]
    congr 1
    · exact Fin.ext (by simp)
  · exact k_cover A19 X6 X7 cs sn _

/-- The stores cover v. -/
theorem v_cover (y : S1x8x64x384.Idx) : ∃ p ∈ vPieces A19 X6 X7, y ∈ p.1.set := by
  idx_vars y
  refine ⟨_, (List.mem_ofFn).mpr ⟨Fin.rev ⟨2 * y1.val + y2.val / 32, by omega⟩, rfl⟩, ?_⟩
  rw [Rect.mem_set_unit]
  intro a
  fin_cases a <;> simp <;> omega

/-- The v heads as left. -/
theorem v_canon (h : Fin 8) (d : Fin 64) (s : Fin 384) :
    View.canon (vPieces A19 X6 X7) (ix4 0 h d s) = qkvOf A19 X6 X7 s ⟨64 * (6 * h.val + 5) + d.val, by omega⟩ := by
  refine View.canon_apply_of_pieces (Val := Elt Ideal) (e := .bf16) (fun j : S1x8x64x384.Idx => qkvOf A19 X6 X7 (j 3)
    ⟨64 * (6 * (j 1).val + 5) + (j 2).val, by have : (j 1).val < 8 := (j 1).isLt; have : (j 2).val < 64 := (j 2).isLt; omega⟩) _ ?_ _ ?_
  · intro p hp y
    obtain ⟨n, rfl⟩ := (List.mem_ofFn).mp hp
    obtain ⟨z, z', a, b, rfl⟩ : ∃ (z z' : Fin 1) (a : Fin 32) (b : Fin 384), y = ix4 z z' a b := ⟨y 0, y 1, y 2, y 3, eq_ix4 y⟩
    obtain rfl : z = 0 := Fin.ext (by omega)
    obtain rfl : z' = 0 := Fin.ext (by omega)
    refine (v_spec A19 X6 X7 _ _ _ a b).trans ?_
    have hn := (Fin.rev n).isLt
    have e := emb4 (A := 1) (B := 8) (C := 64) (D := 384) (inbK ⟨(Fin.rev n).val / 2, by omega⟩ ⟨(Fin.rev n).val % 2, by omega⟩) 0 0 a b (by simp) (by simp; omega) (by simp only; omega) (by omega)
    simp only [e, ix4_1, ix4_2, ix4_3]
    congr 1
    · exact Fin.ext (by simp)
    · exact Fin.ext (by simp; omega)
  · exact v_cover A19 X6 X7 _

end heads

end Cert.KernelIdeal.Hand

end
-- ==== Proof.Trip.lean ====
/- One trip of the body's loop, in the vocabulary of `Words.lean`. -/
module

public import proofs.«01_k».proof.Proof.Words
public import proofs.«01_k».proof.Proof.Gen.KernelIdeal.Loops

@[expose] public section

set_option maxRecDepth 16384

noncomputable section

namespace Cert.KernelIdeal.Hand

open Cert.KernelIdeal.Gen
open Idealize.ShloMosaic Idealize.SL.Sem Idealize.ShloMosaic.Tactic

variable {F : FTy → Type} [FloatOps F]

/-- The columns that trip `k` computes, from what it finds. -/
abbrev tripY (k : Fin 8) (A17 : Vec F S384x8192 .bf16) (X2 : Vec F S8192x2048 .fp8e4m3) (X3 : Vec F S64x16 .f32) (X4 : Vec F S1x384x2048 .bf16) :
    FVec F S384x256 .bf16 :=
  yTile A17 X2 X3 X4 ⟨2 * k.val, by omega⟩ ⟨2 * k.val + 1, by omega⟩ k

/-- One trip stores one tile of the first result and adds its squares to the running sums. -/
theorem trip_pieces (𝒱 : Variants) (c : Dev nD) (bd : Option 𝒱.V) (i : grid0.Coords) (arg1 : Memref sig .tc .vmem S1x384x8192 .fp8e4m3) (harg1 : arg1.IsWhole) (arg2 : Memref sig .tc .vmem S1x64x384 .f32) (harg2 : arg2.IsWhole) (arg3 : Memref sig .tc .vmem S8192x2048 .fp8e4m3) (harg3 : arg3.IsWhole) (arg4 : Memref sig .tc .smem S64x16 .f32) (harg4 : arg4.IsWhole) (arg5 : Memref sig .tc .vmem S1x384x2048 .bf16) (harg5 : arg5.IsWhole) (arg6 : Memref sig .tc .vmem S1x2048 .f32) (harg6 : arg6.IsWhole) (arg7 : Memref sig .tc .vmem S2048x3072 .fp8e4m3) (harg7 : arg7.IsWhole) (arg8 : Memref sig .tc .smem S16x24 .f32) (harg8 : arg8.IsWhole) (arg9 : Memref sig .tc .vmem S1x1x384 .i32) (harg9 : arg9.IsWhole) (arg10 : Memref sig .tc .vmem S32x1 .f32) (harg10 : arg10.IsWhole) (arg11 : Memref sig .tc .vmem S1x384x2048 .bf16) (harg11 : arg11.IsWhole) (arg12 : Memref sig .tc .vmem S1x32x64x384 .bf16) (harg12 : arg12.IsWhole) (arg13 : Memref sig .tc .vmem S1x8x64x384 .bf16) (harg13 : arg13.IsWhole) (arg14 : Memref sig .tc .vmem S1x8x64x384 .bf16) (harg14 : arg14.IsWhole) (arg15 : Memref sig .tc .vmem S1x384x2048 .fp8e4m3) (harg15 : arg15.IsWhole) (arg16 : Memref sig .tc .vmem S1x16x384 .f32) (harg16 : arg16.IsWhole) (arg17 : Memref sig .tc .vmem S384x8192 .bf16) (harg17 : arg17.IsWhole) (arg18 : Memref sig .tc .vmem S384x128 .f32) (harg18 : arg18.IsWhole) (arg19 : Memref sig .tc .vmem S384x2048 .bf16) (harg19 : arg19.IsWhole) (arg20 : Memref sig .tc .vmem S32x384 .f32) (harg20 : arg20.IsWhole) (arg21 : Memref sig .tc .vmem S32x384 .f32) (harg21 : arg21.IsWhole) (v697 : FVec F S384x1 .f32) (X_arg3 : BufTy.Contents (Elt F) arg3.view.ty) (X_arg4 : BufTy.Contents (Elt F) arg4.view.ty) (X_arg5 : BufTy.Contents (Elt F) arg5.view.ty) (X_arg17 : BufTy.Contents (Elt F) arg17.view.ty)  :
    ∀ k : Fin 8, ∀ f_arg11 f_arg18,
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v697 X_arg3 X_arg4 X_arg5 X_arg17 k).1 f_arg11 f_arg18 = [⟨Rect.unit (s := S1x384x2048) ![0, 0, 256 * k.val] S1x384x256.size (inbY k),
        shapeCast S1x384x256 (tripY k (arg17.view.read (Elt F) X_arg17) (arg3.view.read (Elt F) X_arg3) (arg4.view.read (Elt F) X_arg4) (arg5.view.read (Elt F) X_arg5)) shapeCasts_S384x256_S1x384x256⟩] ∧
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v697 X_arg3 X_arg4 X_arg5 X_arg17 k).2.1 f_arg11 f_arg18 = [⟨Rect.unit (s := S384x128) ![0, 0] S384x128.size inb_S384x128_S384x128_0_0,
        ssqStep (tripY k (arg17.view.read (Elt F) X_arg17) (arg3.view.read (Elt F) X_arg3) (arg4.view.read (Elt F) X_arg4) (arg5.view.read (Elt F) X_arg5))
          (View.ld (arg18.view.read (Elt F) f_arg18) (Rect.unit (s := S384x128) ![0, 0] S384x128.size inb_S384x128_S384x128_0_0))⟩]
  | ⟨0, _⟩, _, _ => ⟨by sl_kernel_rfl, by sl_kernel_rfl⟩
  | ⟨1, _⟩, _, _ => ⟨by sl_kernel_rfl, by sl_kernel_rfl⟩
  | ⟨2, _⟩, _, _ => ⟨by sl_kernel_rfl, by sl_kernel_rfl⟩
  | ⟨3, _⟩, _, _ => ⟨by sl_kernel_rfl, by sl_kernel_rfl⟩
  | ⟨4, _⟩, _, _ => ⟨by sl_kernel_rfl, by sl_kernel_rfl⟩
  | ⟨5, _⟩, _, _ => ⟨by sl_kernel_rfl, by sl_kernel_rfl⟩
  | ⟨6, _⟩, _, _ => ⟨by sl_kernel_rfl, by sl_kernel_rfl⟩
  | ⟨7, _⟩, _, _ => ⟨by sl_kernel_rfl, by sl_kernel_rfl⟩

end Cert.KernelIdeal.Hand

end
-- ==== Proof.RunValue.lean ====
/- What one run of the body leaves in each output's buffer, over the reals. -/
module

public import proofs.«01_k».proof.Proof.Canon
public import proofs.«01_k».proof.Proof.Trip

@[expose] public section

set_option maxRecDepth 16384

noncomputable section

namespace Cert.KernelIdeal.Hand

open Cert.KernelIdeal.Gen
open Idealize.ShloMosaic Idealize.SL.Sem

/-! ## One batch entry's results from its blocks -/

section blocks

variable (x0 : Vec Ideal S1x384x8192 .fp8e4m3) (x1 : Vec Ideal S1x64x384 .f32) (x2 : Vec Ideal S8192x2048 .fp8e4m3) (x3 : Vec Ideal S64x16 .f32)
  (x4 : Vec Ideal S1x384x2048 .bf16) (x5 : Vec Ideal S1x2048 .f32) (x6 : Vec Ideal S2048x3072 .fp8e4m3) (x7 : Vec Ideal S16x24 .f32)
  (x8 : Vec Ideal S1x1x384 .i32) (x9 : Vec Ideal S32x1 .f32)

/-- The first result, from one grid point's blocks. -/
def roB : Fin 384 → Fin 2048 → EReal :=
  Spec.ro (fun s d => x4 (ix3 0 s d)) (fun s f => x0 (ix3 0 s f)) (fun s g => x1 (ix3 0 g s)) (fun f d => x2 (ix2 f d)) (fun k n => x3 (ix2 k n))

/-- The normed rows, from the blocks. -/
def xnB : Fin 384 → Fin 2048 → EReal := Spec.xn (roB x0 x1 x2 x3 x4) (fun d => x5 (ix2 0 d))

/-- The qkv projection, from the blocks. -/
def qkvB : Fin 384 → Fin 3072 → EReal :=
  Spec.qkv (Spec.xd inv1 scale1 (xnB x0 x1 x2 x3 x4 x5)) (fun d n => x6 (ix2 d n)) (fun k n => x7 (ix2 k n))

/-- The angles, from the blocks. -/
def thB (s : Fin 384) (i : Fin 32) : EReal := FloatOps.sitofp (F := Ideal) .f32 (x8 (ix3 0 0 s)) * x9 (ix2 i 0)

/-- The rotated heads, from the blocks. -/
def ropeB : Fin 384 → Fin 48 → Fin 64 → EReal :=
  Spec.rope (qkvB x0 x1 x2 x3 x4 x5 x6 x7) (fun s i => Ideal.cos (thB x8 x9 s i)) (fun s i => Ideal.sin (thB x8 x9 s i))

end blocks

/-! ## The run -/

variable  (c : Dev nD) (i : grid0.Coords) (arg1 : Memref sig .tc .vmem S1x384x8192 .fp8e4m3) (harg1 : arg1.IsWhole) (arg2 : Memref sig .tc .vmem S1x64x384 .f32) (harg2 : arg2.IsWhole) (arg3 : Memref sig .tc .vmem S8192x2048 .fp8e4m3) (harg3 : arg3.IsWhole) (arg4 : Memref sig .tc .smem S64x16 .f32) (harg4 : arg4.IsWhole) (arg5 : Memref sig .tc .vmem S1x384x2048 .bf16) (harg5 : arg5.IsWhole) (arg6 : Memref sig .tc .vmem S1x2048 .f32) (harg6 : arg6.IsWhole) (arg7 : Memref sig .tc .vmem S2048x3072 .fp8e4m3) (harg7 : arg7.IsWhole) (arg8 : Memref sig .tc .smem S16x24 .f32) (harg8 : arg8.IsWhole) (arg9 : Memref sig .tc .vmem S1x1x384 .i32) (harg9 : arg9.IsWhole) (arg10 : Memref sig .tc .vmem S32x1 .f32) (harg10 : arg10.IsWhole) (arg11 : Memref sig .tc .vmem S1x384x2048 .bf16) (harg11 : arg11.IsWhole) (arg12 : Memref sig .tc .vmem S1x32x64x384 .bf16) (harg12 : arg12.IsWhole) (arg13 : Memref sig .tc .vmem S1x8x64x384 .bf16) (harg13 : arg13.IsWhole) (arg14 : Memref sig .tc .vmem S1x8x64x384 .bf16) (harg14 : arg14.IsWhole) (arg15 : Memref sig .tc .vmem S1x384x2048 .fp8e4m3) (harg15 : arg15.IsWhole) (arg16 : Memref sig .tc .vmem S1x16x384 .f32) (harg16 : arg16.IsWhole) (arg17 : Memref sig .tc .vmem S384x8192 .bf16) (harg17 : arg17.IsWhole) (arg18 : Memref sig .tc .vmem S384x128 .f32) (harg18 : arg18.IsWhole) (arg19 : Memref sig .tc .vmem S384x2048 .bf16) (harg19 : arg19.IsWhole) (arg20 : Memref sig .tc .vmem S32x384 .f32) (harg20 : arg20.IsWhole) (arg21 : Memref sig .tc .vmem S32x384 .f32) (harg21 : arg21.IsWhole)
    (x0 : Vec Ideal S1x384x8192 .fp8e4m3) (x1 : Vec Ideal S1x64x384 .f32) (x2 : Vec Ideal S8192x2048 .fp8e4m3) (x3 : Vec Ideal S64x16 .f32) (x4 : Vec Ideal S1x384x2048 .bf16) (x5 : Vec Ideal S1x2048 .f32) (x6 : Vec Ideal S2048x3072 .fp8e4m3) (x7 : Vec Ideal S16x24 .f32) (x8 : Vec Ideal S1x1x384 .i32) (x9 : Vec Ideal S32x1 .f32) (x10 : Vec Ideal S1x384x2048 .bf16)

/-- The dequantised activation that the loop reads. -/
theorem read17 (s : Fin 384) (f : Fin 8192) :
    arg17.view.read (Elt Ideal) (arg17.view.writes (Elt Ideal) arg17.view.junk (hdPieces x0 x1)) (ix2 s f) =
      x0 (ix3 0 s f) * x1 (ix3 0 ⟨f.val / 128, by omega⟩ s) :=
  (congrFun (View.read_writes_eq_canon _ _ _ (hdPieces_cover x0 x1)) _).trans (hdPieces_canon x0 x1 s f)

/-- The running sums start at zero. -/
theorem read18 (s : Fin 384) (l : Fin 128) :
    arg18.view.read (Elt Ideal) (arg18.view.writes (Elt Ideal) arg18.view.junk ssq0) (ix2 s l) = 0 := by
  refine (congrFun (View.read_writes_eq_canon _ _ _ (fun y => ⟨_, List.mem_cons_self, View.mem_set_unit_zero zeros2 inb_S384x128_S384x128_0_0 y⟩)) _).trans ?_
  refine (congrFun (View.canon_cons_unit_zero zeros2 _ _ _) _).trans ?_
  pointwise

/-- The loop's eight trips. -/
theorem loop_all :
    (∀ p ∈ (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).1, ∀ x, p.2 x = (fun j : S1x384x2048.Idx => roB x0 x1 x2 x3 x4 (j 1) (j 2)) (p.1.emb x)) ∧
    (∀ y : S1x384x2048.Idx, (y 2).val < 256 * 8 → ∃ p ∈ (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).1, y ∈ p.1.set) ∧
    ∀ s l, arg18.view.read (Elt Ideal) (arg18.view.writes (Elt Ideal) (arg18.view.writes (Elt Ideal) arg18.view.junk ssq0)
      (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).2) (ix2 s l) = ∑ k : Fin 8, if k.val < 8 then sqAt (roB x0 x1 x2 x3 x4) s l k else 0 :=
  loop_meaning arg18.view (arg18.view.writes (Elt Ideal) arg18.view.junk ssq0) (read18 arg18)
    (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    (k0_pay222 (k0_pay141 (View.ld (arg2.view.read (Elt Ideal) (harg2.unread x1)) (Rect.unit (s := S1x64x384) ![0, 0, 0] S1x64x384.size inb_S1x64x384_S1x64x384_0_0_0))))
    (harg3.unread x2) (harg4.unread x3) (harg5.unread x4)
    (arg17.view.writes (Elt Ideal) arg17.view.junk (hdPieces (arg1.view.read (Elt Ideal) (harg1.unread x0)) (arg2.view.read (Elt Ideal) (harg2.unread x1))))
    (harg11.unread x10) (arg18.view.writes (Elt Ideal) arg18.view.junk ssq0)) rfl
    (fun k => tripY k (arg17.view.read (Elt Ideal) (arg17.view.writes (Elt Ideal) arg17.view.junk (hdPieces (arg1.view.read (Elt Ideal) (harg1.unread x0)) (arg2.view.read (Elt Ideal) (harg2.unread x1)))))
      (arg3.view.read (Elt Ideal) (harg3.unread x2)) (arg4.view.read (Elt Ideal) (harg4.unread x3)) (arg5.view.read (Elt Ideal) (harg5.unread x4)))
    (fun k => by
      refine (congrArg Prod.fst (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ k)).trans ?_
      exact congrArg (· ++ _) (trip_pieces (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ k _ _).1)
    (fun k => by
      refine (congrArg Prod.snd (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ k)).trans ?_
      exact congrArg (· ++ _) (trip_pieces (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ k _ _).2)
    (roB x0 x1 x2 x3 x4)
    (fun k s l => by
      unfold tripY
      rw [yTile_apply]
      simp only [Memref.IsWhole.read_unread, read17]
      rfl)
    8 (le_refl 8)

/-- The first result, read back after the loop. -/
theorem loop_canon (s : Fin 384) (d : Fin 2048) :
    View.canon (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).1 (ix3 0 s d) = roB x0 x1 x2 x3 x4 s d := by
  obtain ⟨h1, h2, _⟩ := loop_all c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10
  exact View.canon_apply_of_pieces (Val := Elt Ideal) (e := .bf16) (fun j : S1x384x2048.Idx => roB x0 x1 x2 x3 x4 (j 1) (j 2)) _ h1 _ (h2 _ d.isLt)

/-- The eight tiles cover the first result. -/
theorem loop_cover (y : S1x384x2048.Idx) : ∃ p ∈ (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).1, y ∈ p.1.set :=
  (loop_all c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).2.1 y (y 2).isLt

/-- The first result that the norm reads. -/
theorem roBuf_apply (s : Fin 384) (d : Fin 2048) : roBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 (ix3 0 s d) = roB x0 x1 x2 x3 x4 s d :=
  (congrFun (View.read_writes_eq_canon _ _ _ (loop_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10)) _).trans
    (loop_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s d)

/-- The sums of squares that the norm reads. -/
theorem ssBuf_apply (s : Fin 384) (l : Fin 128) :
    ssBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 (ix2 s l) = ∑ k : Fin 8, sqAt (roB x0 x1 x2 x3 x4) s l k := by
  have h := (loop_all c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10).2.2 s l
  simp only [Fin.is_lt, if_true] at h
  refine Eq.trans ?_ h
  unfold ssBuf View.readCov
  rw [View.writes_append]
  exact congrFun (View.ld_unit_zero zeros2 inb_S384x128_S384x128_0_0 _) _

/-- The normed run. -/
theorem xBuf_apply (g : Fin 16) (s : Fin 384) (l : Fin 128) :
    xBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10 g (ix2 s l) = xnB x0 x1 x2 x3 x4 x5 s ⟨128 * g.val + l.val, by omega⟩ := by
  unfold xBuf
  rw [xGrp_apply, roBuf_apply]
  simp only [ssBuf_apply, sum_sqAt, Memref.IsWhole.read_unread]
  rfl

/-- The rows read back that the projection reads. -/
theorem xdBuf_apply (s : Fin 384) (d : Fin 2048) :
    xdBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10 (ix2 s d) = Spec.xd inv1 scale1 (xnB x0 x1 x2 x3 x4 x5) s d := by
  unfold xdBuf
  rw [View.readCov_eq_canon_ld _ _ _ (xd_cover _ _ (xBuf_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10)), View.ld_unit_zero zeros2]
  exact xd_canon _ _ (xBuf_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) s d

/-- The cosines that the rotation reads. -/
theorem csBuf_apply (j : Fin 32) (s : Fin 384) : csBuf arg9 harg9 arg10 harg10 arg20 x8 x9 (ix2 j s) = Ideal.cos (thB x8 x9 s j) := by
  unfold csBuf csPieces
  rw [View.readCov_unit_zero _ zeros2]
  pointwise
  rw [thetaW_apply, Memref.IsWhole.read_unread, Memref.IsWhole.read_unread]
  rfl

/-- The sines that the rotation reads. -/
theorem snBuf_apply (j : Fin 32) (s : Fin 384) : snBuf arg9 harg9 arg10 harg10 arg21 x8 x9 (ix2 j s) = Ideal.sin (thB x8 x9 s j) := by
  unfold snBuf snPieces
  rw [View.readCov_unit_zero _ zeros2]
  pointwise
  rw [thetaW_apply, Memref.IsWhole.read_unread, Memref.IsWhole.read_unread]
  rfl

/-! ## The six outputs -/

/-- The run leaves the plain first result; the five `val_` lemmas below say the same of the others. -/
theorem val_ro (s : Fin 384) (d : Fin 2048) : View.canon (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 (ix3 0 s d) = roB x0 x1 x2 x3 x4 s d := by
  rw [run_ro]; exact loop_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 s d

/-- The projection that the stores take from. -/
theorem qkvOf_run (s : Fin 384) (n : Fin 3072) :
    qkvOf (xdBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) (arg7.view.read (Elt Ideal) (harg7.unread x6)) (arg8.view.read (Elt Ideal) (harg8.unread x7)) s n =
      qkvB x0 x1 x2 x3 x4 x5 x6 x7 s n := by
  unfold qkvOf qkvB
  simp only [xdBuf_apply, Memref.IsWhole.read_unread]

/-- The rotation that the stores take from. -/
theorem ropeOf_run (s : Fin 384) (e : Fin 48) (d : Fin 64) :
    ropeOf (xdBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) (arg7.view.read (Elt Ideal) (harg7.unread x6)) (arg8.view.read (Elt Ideal) (harg8.unread x7))
        (csBuf arg9 harg9 arg10 harg10 arg20 x8 x9) (snBuf arg9 harg9 arg10 harg10 arg21 x8 x9) s e d =
      ropeB x0 x1 x2 x3 x4 x5 x6 x7 x8 x9 s e d := by
  unfold ropeOf ropeB
  rw [show qkvOf (xdBuf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) (arg7.view.read (Elt Ideal) (harg7.unread x6)) (arg8.view.read (Elt Ideal) (harg8.unread x7)) =
    qkvB x0 x1 x2 x3 x4 x5 x6 x7 from funext fun s => funext fun n => qkvOf_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x10 s n]
  simp only [csBuf_apply, snBuf_apply]

theorem val_q (h : Fin 32) (d : Fin 64) (s : Fin 384) : View.canon (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1 (ix4 0 h d s) =
    ropeB x0 x1 x2 x3 x4 x5 x6 x7 x8 x9 s ⟨6 * (h.val / 4) + h.val % 4, by omega⟩ d := by
  rw [run_q, q_canon, ropeOf_run]

theorem val_k (h : Fin 8) (d : Fin 64) (s : Fin 384) : View.canon (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1 (ix4 0 h d s) =
    ropeB x0 x1 x2 x3 x4 x5 x6 x7 x8 x9 s ⟨6 * h.val + 4, by omega⟩ d := by
  rw [run_k, k_canon, ropeOf_run]

theorem val_v (h : Fin 8) (d : Fin 64) (s : Fin 384) : View.canon (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1 (ix4 0 h d s) =
    qkvB x0 x1 x2 x3 x4 x5 x6 x7 s ⟨64 * (6 * h.val + 5) + d.val, by omega⟩ := by
  rw [run_v, v_canon, qkvOf_run]

theorem val_xc (s : Fin 384) (d : Fin 2048) : View.canon (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1 (ix3 0 s d) =
    Spec.code inv1 (xnB x0 x1 x2 x3 x4 x5) s d := by
  rw [run_xc]
  exact xc_canon _ _ (xBuf_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) s d

theorem val_xs (s : Fin 384) (g : Fin 16) : View.canon (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1 (ix3 0 g s) =
    scale1 (Spec.amax (xnB x0 x1 x2 x3 x4 x5) s g) := by
  rw [run_xs]
  exact xs_canon _ _ (xBuf_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x10) s g

end Cert.KernelIdeal.Hand

end
-- ==== Proof.KFrame.lean ====
/- The kernel's run over the reals: the body leaves each output's buffer at its closed form at every point of the grid,
   so the whole launch ends with the arrays that the pipeline computes from those. -/
module

public import proofs.«01_k».proof.Proof.RunValue
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the body leaves in each output's buffer -/

section blocks

variable (x0 : Vec Ideal S1x384x8192 .fp8e4m3) (x1 : Vec Ideal S1x64x384 .f32) (x2 : Vec Ideal S8192x2048 .fp8e4m3) (x3 : Vec Ideal S64x16 .f32)
  (x4 : Vec Ideal S1x384x2048 .bf16) (x5 : Vec Ideal S1x2048 .f32) (x6 : Vec Ideal S2048x3072 .fp8e4m3) (x7 : Vec Ideal S16x24 .f32)
  (x8 : Vec Ideal S1x1x384 .i32) (x9 : Vec Ideal S32x1 .f32)

/-- The residual stream. -/
def roOut : Vec Ideal S1x384x2048 .bf16 := fun j => roB x0 x1 x2 x3 x4 (j 1) (j 2)

/-- The turned query heads. -/
def qOut : Vec Ideal S1x32x64x384 .bf16 := fun j => ropeB x0 x1 x2 x3 x4 x5 x6 x7 x8 x9 (j 3)
  ⟨6 * ((j 1).val / 4) + (j 1).val % 4, by have : (j 1).val < 32 := (j 1).isLt; omega⟩ (j 2)

/-- The turned key heads. -/
def kOut : Vec Ideal S1x8x64x384 .bf16 := fun j => ropeB x0 x1 x2 x3 x4 x5 x6 x7 x8 x9 (j 3)
  ⟨6 * (j 1).val + 4, by have : (j 1).val < 8 := (j 1).isLt; omega⟩ (j 2)

/-- The value heads. -/
def vOut : Vec Ideal S1x8x64x384 .bf16 := fun j => qkvB x0 x1 x2 x3 x4 x5 x6 x7 (j 3)
  ⟨64 * (6 * (j 1).val + 5) + (j 2).val, by have : (j 1).val < 8 := (j 1).isLt; have : (j 2).val < 64 := (j 2).isLt; omega⟩

/-- The quantised rows. -/
def xcOut : Vec Ideal S1x384x2048 .fp8e4m3 := fun j => Spec.code inv1 (xnB x0 x1 x2 x3 x4 x5) (j 1) (j 2)

/-- The rows' scales. -/
def xsOut : Vec Ideal S1x16x384 .f32 := fun j => scale1 (Spec.amax (xnB x0 x1 x2 x3 x4 x5) (j 2) (j 1))

end blocks

section left

/-- Blocks with a leading axis of length one are equal when equal at each element of it. -/
theorem ext3 {B C : ℕ} {α : Type} {f g : (⟨3, ![1, B, C]⟩ : Shape).Idx → α} (h : ∀ b c, f (ix3 0 b c) = g (ix3 0 b c)) : f = g := by
  funext y
  obtain ⟨z, a, b, rfl⟩ : ∃ (z : Fin 1) (a : Fin B) (b : Fin C), y = ix3 z a b := ⟨y 0, y 1, y 2, eq_ix3 y⟩
  obtain rfl : z = 0 := Fin.ext (by omega)
  exact h a b

theorem ext4 {B C D : ℕ} {α : Type} {f g : (⟨4, ![1, B, C, D]⟩ : Shape).Idx → α} (h : ∀ b c d, f (ix4 0 b c d) = g (ix4 0 b c d)) : f = g := by
  funext y
  obtain ⟨z, a, b, d, rfl⟩ : ∃ (z : Fin 1) (a : Fin B) (b : Fin C) (d : Fin D), y = ix4 z a b d := ⟨y 0, y 1, y 2, y 3, eq_ix4 y⟩
  obtain rfl : z = 0 := Fin.ext (by omega)
  exact h a b d

variable  (c : Dev nD) (i : grid0.Coords) (arg1 : Memref sig .tc .vmem S1x384x8192 .fp8e4m3) (harg1 : arg1.IsWhole) (arg2 : Memref sig .tc .vmem S1x64x384 .f32) (harg2 : arg2.IsWhole) (arg3 : Memref sig .tc .vmem S8192x2048 .fp8e4m3) (harg3 : arg3.IsWhole) (arg4 : Memref sig .tc .smem S64x16 .f32) (harg4 : arg4.IsWhole) (arg5 : Memref sig .tc .vmem S1x384x2048 .bf16) (harg5 : arg5.IsWhole) (arg6 : Memref sig .tc .vmem S1x2048 .f32) (harg6 : arg6.IsWhole) (arg7 : Memref sig .tc .vmem S2048x3072 .fp8e4m3) (harg7 : arg7.IsWhole) (arg8 : Memref sig .tc .smem S16x24 .f32) (harg8 : arg8.IsWhole) (arg9 : Memref sig .tc .vmem S1x1x384 .i32) (harg9 : arg9.IsWhole) (arg10 : Memref sig .tc .vmem S32x1 .f32) (harg10 : arg10.IsWhole) (arg11 : Memref sig .tc .vmem S1x384x2048 .bf16) (harg11 : arg11.IsWhole) (arg12 : Memref sig .tc .vmem S1x32x64x384 .bf16) (harg12 : arg12.IsWhole) (arg13 : Memref sig .tc .vmem S1x8x64x384 .bf16) (harg13 : arg13.IsWhole) (arg14 : Memref sig .tc .vmem S1x8x64x384 .bf16) (harg14 : arg14.IsWhole) (arg15 : Memref sig .tc .vmem S1x384x2048 .fp8e4m3) (harg15 : arg15.IsWhole) (arg16 : Memref sig .tc .vmem S1x16x384 .f32) (harg16 : arg16.IsWhole) (arg17 : Memref sig .tc .vmem S384x8192 .bf16) (harg17 : arg17.IsWhole) (arg18 : Memref sig .tc .vmem S384x128 .f32) (harg18 : arg18.IsWhole) (arg19 : Memref sig .tc .vmem S384x2048 .bf16) (harg19 : arg19.IsWhole) (arg20 : Memref sig .tc .vmem S32x384 .f32) (harg20 : arg20.IsWhole) (arg21 : Memref sig .tc .vmem S32x384 .f32) (harg21 : arg21.IsWhole)
    (x0 : Vec Ideal S1x384x8192 .fp8e4m3) (x1 : Vec Ideal S1x64x384 .f32) (x2 : Vec Ideal S8192x2048 .fp8e4m3) (x3 : Vec Ideal S64x16 .f32) (x4 : Vec Ideal S1x384x2048 .bf16) (x5 : Vec Ideal S1x2048 .f32) (x6 : Vec Ideal S2048x3072 .fp8e4m3) (x7 : Vec Ideal S16x24 .f32) (x8 : Vec Ideal S1x1x384 .i32) (x9 : Vec Ideal S32x1 .f32) (x10 : Vec Ideal S1x384x2048 .bf16)

/-- A buffer read whole after the run is the closed form; the lemmas after it say the same of the other results. -/
theorem left_ro {sp} (v : View sig .tc sp S1x384x2048 .bf16) (f : v.ty.Contents (Elt Ideal)) :
    v.read (Elt Ideal) (v.writes (Elt Ideal) f (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1) = roOut x0 x1 x2 x3 x4 := by
  refine (View.read_writes_eq_canon _ _ _ fun y => ?_).trans (ext3 fun a b => ?_)
  · rw [run_ro]; exact loop_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x10 y
  · exact (val_ro c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 a b).trans (by unfold roOut; rfl)

theorem left_q {sp} (v : View sig .tc sp S1x32x64x384 .bf16) (f : v.ty.Contents (Elt Ideal)) :
    v.read (Elt Ideal) (v.writes (Elt Ideal) f (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.1) = qOut x0 x1 x2 x3 x4 x5 x6 x7 x8 x9 := by
  refine (View.read_writes_eq_canon _ _ _ fun y => ?_).trans (ext4 fun a b d => ?_)
  · rw [run_q]; exact q_cover _ _ _ _ _ y
  · exact (val_q c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 a b d).trans (by unfold qOut; rfl)

theorem left_k {sp} (v : View sig .tc sp S1x8x64x384 .bf16) (f : v.ty.Contents (Elt Ideal)) :
    v.read (Elt Ideal) (v.writes (Elt Ideal) f (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.1) = kOut x0 x1 x2 x3 x4 x5 x6 x7 x8 x9 := by
  refine (View.read_writes_eq_canon _ _ _ fun y => ?_).trans (ext4 fun a b d => ?_)
  · rw [run_k]; exact k_cover _ _ _ _ _ y
  · exact (val_k c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 a b d).trans (by unfold kOut; rfl)

theorem left_v {sp} (v : View sig .tc sp S1x8x64x384 .bf16) (f : v.ty.Contents (Elt Ideal)) :
    v.read (Elt Ideal) (v.writes (Elt Ideal) f (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.1) = vOut x0 x1 x2 x3 x4 x5 x6 x7 := by
  refine (View.read_writes_eq_canon _ _ _ fun y => ?_).trans (ext4 fun a b d => ?_)
  · rw [run_v]; exact v_cover _ _ _ y
  · exact (val_v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 a b d).trans (by unfold vOut; rfl)

theorem left_xc {sp} (v : View sig .tc sp S1x384x2048 .fp8e4m3) (f : v.ty.Contents (Elt Ideal)) :
    v.read (Elt Ideal) (v.writes (Elt Ideal) f (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.1) = xcOut x0 x1 x2 x3 x4 x5 := by
  refine (View.read_writes_eq_canon _ _ _ fun y => ?_).trans (ext3 fun a b => ?_)
  · rw [run_xc (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10]; exact xc_cover _ y
  · exact (val_xc c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 a b).trans (by unfold xcOut; rfl)

theorem left_xs {sp} (v : View sig .tc sp S1x16x384 .f32) (f : v.ty.Contents (Elt Ideal)) :
    v.read (Elt Ideal) (v.writes (Elt Ideal) f (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).2.2.2.2.2.1) = xsOut x0 x1 x2 x3 x4 x5 := by
  refine (View.read_writes_eq_canon _ _ _ fun y => ?_).trans (ext3 fun a b => ?_)
  · rw [run_xs (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10]; exact ⟨_, List.mem_cons_self, View.mem_set_unit_zero zeros3 inb_S1x16x384_S1x16x384_0_0_0 y⟩
  · exact (val_xs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 b a).trans (by unfold xsOut; rfl)

end left

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The proof data of the one pipeline on core `c`: the arrays as the region finds them (`V`); after the body at
    point `t` each input's buffer at its block and the outputs' at the values above; the invariant is the scratch at
    anything and the generator register; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => roOut (iblk m c 0 t) (iblk m c 1 t) (iblk m c 2 t) (iblk m c 3 t) (iblk m c 4 t)
    | ⟨11, _⟩ => qOut (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => kOut (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => vOut (iblk m c 0 t) (iblk m c 1 t) (iblk m c 2 t) (iblk m c 3 t) (iblk m c 4 t) (iblk m c 5 t) (iblk m c 6 t) (iblk m c 7 t)
    | ⟨14, _⟩ => xcOut (iblk m c 0 t) (iblk m c 1 t) (iblk m c 2 t) (iblk m c 3 t) (iblk m c 4 t) (iblk m c 5 t)
    | ⟨15, _⟩ => xsOut (iblk m c 0 t) (iblk m c 1 t) (iblk m c 2 t) (iblk m c 3 t) (iblk m c 4 t) (iblk m c 5 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the run leaves of each operand, and below, what it finds. -/
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = roOut (iblk m c 0 t) (iblk m c 1 t) (iblk m c 2 t) (iblk m c 3 t) (iblk m c 4 t) := by dsimp only [dats]
theorem after0_11 (c : Dev nD) (t : Fin cfg0.N) : (dats m 0 c).after 11 t = qOut (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = kOut (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_13 (c : Dev nD) (t : Fin cfg0.N) : (dats m 0 c).after 13 t = vOut (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = xcOut (iblk m c 0 t) (iblk m c 1 t) (iblk m c 2 t) (iblk m c 3 t) (iblk m c 4 t) (iblk m c 5 t) := by dsimp only [dats]
theorem after0_15 (c : Dev nD) (t : Fin cfg0.N) : (dats m 0 c).after 15 t = xsOut (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 2000000 in
/-- The body at any point: the inputs' memrefs hold their blocks (`the before-lemmas`); so the
    run applies; the invariant hands the body its scratch buffers at some contents (and the generator register) and takes them back at some contents (`PhiA0_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun (F := Ideal) c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%e11, H11⟩, ⟨%e12, H12⟩, ⟨%e13, H13⟩, ⟨%e14, H14⟩, ⟨%e15, H15⟩, HS0, HS1, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact left_ro c _ _ _ _ _ _ _ _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact left_q c _ _ _ _ _ _ _ _ _ _ _ _ _ _ _ _ _ _ _ _ _ _ _ _ _ _ _ _ _ _ _ _ _ _ _ _ _ _ _ _ _ _ _ _ _ _ _ _ _ _ _ _ _ _ _ _
  isplitl [H12]
  · unfold owns; iexists _; isplitr
    swap; · iexact H12
    ipureintro; exact left_k c _ _ _ _ _ _ _ _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact left_v c _ _ _ _ _ _ _ _ _ _ _ _ _ _ _ _ _ _ _ _ _ _ _ _ _ _ _ _ _ _ _ _ _ _ _ _ _ _ _ _ _ _ _ _ _ _ _ _ _ _ _ _ _ _ _ _
  isplitl [H14]
  · unfold owns; iexists _; isplitr
    swap; · iexact H14
    ipureintro; exact left_xc c _ _ _ _ _ _ _ _ _ _ _ _ _ _ _ _ _ _ _ _ _ _ _ _ _ _ _ _ _ _ _ _ _ _ _ _ _ _ _ _ _ _ _ _ _ _ _ _ _ _ _ _ _ _ _ _
  unfold owns; iexists _; isplitr
  swap; · iexact H15
  ipureintro; exact left_xs c _ _ _ _ _ _ _ _ _ _ _ _ _ _ _ _ _ _ _ _ _ _ _ _ _ _ _ _ _ _ _ _ _ _ _ _ _ _ _ _ _ _ _ _ _ _ _ _ _ _ _ _ _ _ _ _

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- For any values, from any memory with zero counters: every weakly fair execution of @main on the
    TensorCores terminates, and every final state has every array of the pipeline at what the library computes from the
    proof data and every other unscoped buffer as the lines after the region leave it. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Hand

end
-- ==== Proof.Answer.lean ====
/- The six results over the reals as plain functions of the nine arguments, one batch entry `b` at a time. The quantiser's scale
   (`sc`), its reciprocal (`inv`) and the table of inverse frequencies (`fr`) are parameters: the two programs reach them by
   different roads. -/
module

public import proofs.«01_k».proof.Proof.Spec
public import Idealize.ShloMosaic.Lib.ValueIdx

@[expose] public section

noncomputable section

namespace Cert.Spec

open Idealize.ShloMosaic

/-- Where the query heads stand among the 48, -/
def qHead (h : Fin 32) : Fin 48 := ⟨6 * (h.val / 4) + h.val % 4, by omega⟩
/-- the key heads, -/
def kHead (h : Fin 8) : Fin 48 := ⟨6 * h.val + 4, by omega⟩
/-- and the value heads' columns among the 3072. -/
def vCol (h : Fin 8) (d : Fin 64) : Fin 3072 := ⟨64 * (6 * h.val + 5) + d.val, by omega⟩

section args
variable (inv sc : EReal → EReal) (fr : Fin 32 → EReal)
  (a0 : (⟨3, ![3, 384, 8192]⟩ : Shape).Idx → EReal) (a1 : (⟨3, ![3, 384, 64]⟩ : Shape).Idx → EReal)
  (a2 : (⟨2, ![8192, 2048]⟩ : Shape).Idx → EReal) (a3 : (⟨2, ![64, 16]⟩ : Shape).Idx → EReal)
  (a4 : (⟨3, ![3, 384, 2048]⟩ : Shape).Idx → EReal) (a5 : (⟨1, ![2048]⟩ : Shape).Idx → EReal)
  (a6 : (⟨2, ![2048, 3072]⟩ : Shape).Idx → EReal) (a7 : (⟨2, ![16, 24]⟩ : Shape).Idx → EReal)
  (a8 : (⟨2, ![3, 384]⟩ : Shape).Idx → BitVec 32)

/-- The residual stream after the down projection. -/
def roA (b : Fin 3) : Fin 384 → Fin 2048 → EReal :=
  ro (fun s d => a4 (ix3 b s d)) (fun s f => a0 (ix3 b s f)) (fun s g => a1 (ix3 b s g)) (fun f d => a2 (ix2 f d)) (fun k n => a3 (ix2 k n))

/-- Its normed rows. -/
def xnA (b : Fin 3) : Fin 384 → Fin 2048 → EReal := xn (roA a0 a1 a2 a3 a4 b) (fun d => a5 (ix1 d))

/-- Their codes. -/
def xcA (b : Fin 3) : Fin 384 → Fin 2048 → EReal := code inv (xnA a0 a1 a2 a3 a4 a5 b)

/-- Their scales. -/
def xsA (b : Fin 3) (s : Fin 384) (g : Fin 16) : EReal := sc (amax (xnA a0 a1 a2 a3 a4 a5 b) s g)

/-- The projection of what codes and scales say. -/
def qkvA (b : Fin 3) : Fin 384 → Fin 3072 → EReal :=
  qkv (xd inv sc (xnA a0 a1 a2 a3 a4 a5 b)) (fun d n => a6 (ix2 d n)) (fun k n => a7 (ix2 k n))

/-- The angle of a position at a frequency. -/
def thA (b : Fin 3) (s : Fin 384) (i : Fin 32) : EReal := FloatOps.sitofp (F := Ideal) .f32 (a8 (ix2 b s)) * fr i

/-- The heads turned. -/
def ropeA (b : Fin 3) : Fin 384 → Fin 48 → Fin 64 → EReal :=
  rope (qkvA inv sc a0 a1 a2 a3 a4 a5 a6 a7 b) (fun s i => Ideal.cos (thA fr a8 b s i)) (fun s i => Ideal.sin (thA fr a8 b s i))

end args

end Cert.Spec

end
-- ==== Proof.KArrays.lean ====
/- The kernel's blocks in terms of its arguments, and its six result arrays after the launch. -/
module

public import proofs.«01_k».proof.Proof.KFrame
public import proofs.«01_k».proof.Proof.Answer
public import Idealize.ShloMosaic.Lib.StableHlo.ReadAt
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The batch entry that a grid point works on. -/
def bat (t : Fin cfg0.N) : Fin 3 := ⟨t.val, t.isLt⟩

/-- The operands taken one batch entry at a time. -/
theorem index_batch : ∀ t : Fin cfg0.N, win0_0.index t = ![t.val, 0, 0] ∧ win0_1.index t = ![t.val, 0, 0] ∧ win0_4.index t = ![t.val, 0, 0]
    ∧ win0_8.index t = ![t.val, 0, 0] ∧ win0_10.index t = ![t.val, 0, 0] ∧ win0_11.index t = ![t.val, 0, 0, 0] ∧ win0_12.index t = ![t.val, 0, 0, 0]
    ∧ win0_13.index t = ![t.val, 0, 0, 0] ∧ win0_14.index t = ![t.val, 0, 0] ∧ win0_15.index t = ![t.val, 0, 0] := by decide +kernel

/-- The operands taken whole. -/
theorem index_whole : ∀ t : Fin cfg0.N, win0_2.index t = ![0, 0] ∧ win0_3.index t = ![0, 0] ∧ win0_5.index t = ![0, 0]
    ∧ win0_6.index t = ![0, 0] ∧ win0_7.index t = ![0, 0] ∧ win0_9.index t = ![0, 0] := by decide +kernel

/-- The block of each operand in terms of its array. -/
theorem blk0 (t : Fin cfg0.N) (s : Fin 384) (f : Fin 8192) : iblk m c 0 t (ix3 0 s f) = m (c.tc.loc main_arg0) (ix3 (bat t) s f) := by
  blk_ext [iblk, V_main_arg0, index_batch t, bat]

theorem blk2 (t : Fin cfg0.N) (f : Fin 8192) (d : Fin 2048) : iblk m c 2 t (ix2 f d) = m (c.tc.loc main_arg2) (ix2 f d) := by
  blk_ext [iblk, V_main_arg2, index_whole t]

theorem blk3 (t : Fin cfg0.N) (k : Fin 64) (n : Fin 16) : iblk m c 3 t (ix2 k n) = m (c.tc.loc main_arg3) (ix2 k n) := by
  blk_ext [iblk, V_main_arg3, index_whole t]

theorem blk4 (t : Fin cfg0.N) (s : Fin 384) (d : Fin 2048) : iblk m c 4 t (ix3 0 s d) = m (c.tc.loc main_arg4) (ix3 (bat t) s d) := by
  blk_ext [iblk, V_main_arg4, index_batch t, bat]

theorem blk6 (t : Fin cfg0.N) (d : Fin 2048) (n : Fin 3072) : iblk m c 6 t (ix2 d n) = m (c.tc.loc main_arg6) (ix2 d n) := by
  blk_ext [iblk, V_main_arg6, index_whole t]

theorem blk7 (t : Fin cfg0.N) (k : Fin 16) (n : Fin 24) : iblk m c 7 t (ix2 k n) = m (c.tc.loc main_arg7) (ix2 k n) := by
  blk_ext [iblk, V_main_arg7, index_whole t]

/-! The four arrays that host operations make. -/

/-- The arrays made on the host before the launch: the transposed scales, the reshaped weights and positions, the table of frequencies. -/
theorem V_hs (b : Fin 3) (k : Fin 64) (s : Fin 384) : V m c main_v0 (ix3 b k s) = m (c.tc.loc main_arg1) (ix3 b s k) := by
  unfold V V0
  after_reads_at

theorem V_nw (d : Fin 2048) : V m c main_v1 (ix2 0 d) = m (c.tc.loc main_arg5) (ix1 d) := by
  unfold V V0
  after_reads_at

theorem V_pos (b : Fin 3) (s : Fin 384) : V m c main_v2 (ix3 b 0 s) = m (c.tc.loc main_arg8) (ix2 b s) := by
  unfold V V0
  after_reads_at

/-- The kernel's table of inverse frequencies. -/
def freq (i : Fin 32) : EReal := Ideal.ofBits .f32 (lit0 (S32x1.rowMajor (ix2 i 0)))

theorem V_fr (i : Fin 32) : V m c main_cst (ix2 i 0) = freq i := by
  unfold V V0 freq
  after_reads_at

/-- The blocks of those arrays. -/
theorem blk1 (t : Fin cfg0.N) (k : Fin 64) (s : Fin 384) : iblk m c 1 t (ix3 0 k s) = m (c.tc.loc main_arg1) (ix3 (bat t) s k) := by
  rw [← V_hs m c (bat t) k s]
  blk_ext [iblk, index_batch t, bat]

theorem blk5 (t : Fin cfg0.N) (d : Fin 2048) : iblk m c 5 t (ix2 0 d) = m (c.tc.loc main_arg5) (ix1 d) := by
  rw [← V_nw m c d]
  blk_ext [iblk, index_whole t]

theorem blk8 (t : Fin cfg0.N) (s : Fin 384) : iblk m c 8 t (ix3 0 0 s) = m (c.tc.loc main_arg8) (ix2 (bat t) s) := by
  rw [← V_pos m c (bat t) s]
  blk_ext [iblk, index_batch t, bat]

theorem blk9 (t : Fin cfg0.N) (i : Fin 32) : iblk m c 9 t (ix2 i 0) = freq i := by
  rw [← V_fr m c]
  blk_ext [iblk, index_whole t]

/-! ## The closed forms of a block, over the arguments -/

/-- The nine arguments. -/
abbrev A0 := m (c.tc.loc main_arg0)
abbrev A1 := m (c.tc.loc main_arg1)
abbrev A2 := m (c.tc.loc main_arg2)
abbrev A3 := m (c.tc.loc main_arg3)
abbrev A4 := m (c.tc.loc main_arg4)
abbrev A5 := m (c.tc.loc main_arg5)
abbrev A6 := m (c.tc.loc main_arg6)
abbrev A7 := m (c.tc.loc main_arg7)
abbrev A8 := m (c.tc.loc main_arg8)

/-- The plain functions of the blocks are those of the arguments, at the grid point's batch entry. -/
theorem roB_eq (t : Fin cfg0.N) : roB (iblk m c 0 t) (iblk m c 1 t) (iblk m c 2 t) (iblk m c 3 t) (iblk m c 4 t)
    = Spec.roA (A0 m c) (A1 m c) (A2 m c) (A3 m c) (A4 m c) (bat t) := by
  unfold roB Spec.roA
  simp only [blk0, blk1, blk2, blk3, blk4]

theorem xnB_eq (t : Fin cfg0.N) : xnB (iblk m c 0 t) (iblk m c 1 t) (iblk m c 2 t) (iblk m c 3 t) (iblk m c 4 t) (iblk m c 5 t)
    = Spec.xnA (A0 m c) (A1 m c) (A2 m c) (A3 m c) (A4 m c) (A5 m c) (bat t) := by
  unfold xnB Spec.xnA
  simp only [blk5, roB_eq]

theorem qkvB_eq (t : Fin cfg0.N) : qkvB (iblk m c 0 t) (iblk m c 1 t) (iblk m c 2 t) (iblk m c 3 t) (iblk m c 4 t) (iblk m c 5 t) (iblk m c 6 t) (iblk m c 7 t)
    = Spec.qkvA inv1 scale1 (A0 m c) (A1 m c) (A2 m c) (A3 m c) (A4 m c) (A5 m c) (A6 m c) (A7 m c) (bat t) := by
  unfold qkvB Spec.qkvA
  simp only [blk6, blk7, xnB_eq]

theorem thB_eq (t : Fin cfg0.N) (s : Fin 384) (i : Fin 32) : thB (iblk m c 8 t) (iblk m c 9 t) s i = Spec.thA freq (A8 m c) (bat t) s i := by
  unfold thB Spec.thA
  simp only [blk8, blk9]

theorem ropeB_eq (t : Fin cfg0.N) : ropeB (iblk m c 0 t) (iblk m c 1 t) (iblk m c 2 t) (iblk m c 3 t) (iblk m c 4 t) (iblk m c 5 t) (iblk m c 6 t) (iblk m c 7 t) (iblk m c 8 t) (iblk m c 9 t)
    = Spec.ropeA inv1 scale1 freq (A0 m c) (A1 m c) (A2 m c) (A3 m c) (A4 m c) (A5 m c) (A6 m c) (A7 m c) (A8 m c) (bat t) := by
  unfold ropeB Spec.ropeA
  simp only [thB_eq, qkvB_eq]

/-! ## The arrays after the launch -/

/-- The first result's array after the launch: each grid point fills its own batch entry. The five lemmas after it say the same of the others. -/
theorem arr_ro : (dats m 0 c).arrAt 10 (cfgs 0).N = fun j => Spec.roA (A0 m c) (A1 m c) (A2 m c) (A3 m c) (A4 m c) (j 0) (j 1) (j 2) := by
  refine (dats m 0 c).arrAt_eq_of_covers 10 _ (by decide +kernel) fun t hf y => ?_
  have e : ((win0_10.blk t).view.emb y) = ix3 (bat t) (y 1) (y 2) := by blk_ext [index_batch t, bat]
  blk_simp
  rw [after0_10]
  unfold roOut
  rw [roB_eq, e]
  rfl

theorem arr_q : (dats m 0 c).arrAt 11 (cfgs 0).N = fun j => Spec.ropeA inv1 scale1 freq (A0 m c) (A1 m c) (A2 m c) (A3 m c) (A4 m c) (A5 m c) (A6 m c) (A7 m c) (A8 m c) (j 0) (j 3) (Spec.qHead (j 1)) (j 2) := by
  refine (dats m 0 c).arrAt_eq_of_covers 11 _ (by decide +kernel) fun t hf y => ?_
  have e : ((win0_11.blk t).view.emb y) = ix4 (bat t) (y 1) (y 2) (y 3) := by blk_ext [index_batch t, bat]
  blk_simp
  rw [after0_11]
  unfold qOut
  rw [ropeB_eq, e]
  rfl

theorem arr_k : (dats m 0 c).arrAt 12 (cfgs 0).N = fun j => Spec.ropeA inv1 scale1 freq (A0 m c) (A1 m c) (A2 m c) (A3 m c) (A4 m c) (A5 m c) (A6 m c) (A7 m c) (A8 m c) (j 0) (j 3) (Spec.kHead (j 1)) (j 2) := by
  refine (dats m 0 c).arrAt_eq_of_covers 12 _ (by decide +kernel) fun t hf y => ?_
  have e : ((win0_12.blk t).view.emb y) = ix4 (bat t) (y 1) (y 2) (y 3) := by blk_ext [index_batch t, bat]
  blk_simp
  rw [after0_12]
  unfold kOut
  rw [ropeB_eq, e]
  rfl

theorem arr_v : (dats m 0 c).arrAt 13 (cfgs 0).N = fun j => Spec.qkvA inv1 scale1 (A0 m c) (A1 m c) (A2 m c) (A3 m c) (A4 m c) (A5 m c) (A6 m c) (A7 m c) (j 0) (j 3) (Spec.vCol (j 1) (j 2)) := by
  refine (dats m 0 c).arrAt_eq_of_covers 13 _ (by decide +kernel) fun t hf y => ?_
  have e : ((win0_13.blk t).view.emb y) = ix4 (bat t) (y 1) (y 2) (y 3) := by blk_ext [index_batch t, bat]
  blk_simp
  rw [after0_13]
  unfold vOut
  rw [qkvB_eq, e]
  rfl

theorem arr_xc : (dats m 0 c).arrAt 14 (cfgs 0).N = fun j => Spec.xcA inv1 (A0 m c) (A1 m c) (A2 m c) (A3 m c) (A4 m c) (A5 m c) (j 0) (j 1) (j 2) := by
  refine (dats m 0 c).arrAt_eq_of_covers 14 _ (by decide +kernel) fun t hf y => ?_
  have e : ((win0_14.blk t).view.emb y) = ix3 (bat t) (y 1) (y 2) := by blk_ext [index_batch t, bat]
  blk_simp
  rw [after0_14]
  unfold xcOut
  rw [xnB_eq, e]
  rfl

theorem arr_xs : (dats m 0 c).arrAt 15 (cfgs 0).N = fun j => Spec.xsA scale1 (A0 m c) (A1 m c) (A2 m c) (A3 m c) (A4 m c) (A5 m c) (j 0) (j 2) (j 1) := by
  refine (dats m 0 c).arrAt_eq_of_covers 15 _ (by decide +kernel) fun t hf y => ?_
  have e : ((win0_15.blk t).view.emb y) = ix3 (bat t) (y 1) (y 2) := by blk_ext [index_batch t, bat]
  blk_simp
  rw [after0_15]
  unfold xsOut
  rw [xnB_eq, e]
  rfl

end Cert.KernelIdeal.Hand

end
-- ==== Proof.KRun.lean ====
/- The kernel's six results at its final states: the arrays of the launch, four of them read through the transposes after it. -/
module

public import proofs.«01_k».proof.Proof.KArrays
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The result `ro` of the arguments. -/
def G_ro : S3x384x2048.Idx → EReal := fun j => Spec.roA (A0 m c) (A1 m c) (A2 m c) (A3 m c) (A4 m c) (j 0) (j 1) (j 2)

/-- The result `q` of the arguments. -/
def G_q : S3x384x32x64.Idx → EReal := fun j => Spec.ropeA inv1 scale1 freq (A0 m c) (A1 m c) (A2 m c) (A3 m c) (A4 m c) (A5 m c) (A6 m c) (A7 m c) (A8 m c) (j 0) (j 1) (Spec.qHead (j 2)) (j 3)

/-- The result `k` of the arguments. -/
def G_k : S3x384x8x64.Idx → EReal := fun j => Spec.ropeA inv1 scale1 freq (A0 m c) (A1 m c) (A2 m c) (A3 m c) (A4 m c) (A5 m c) (A6 m c) (A7 m c) (A8 m c) (j 0) (j 1) (Spec.kHead (j 2)) (j 3)

/-- The result `v` of the arguments. -/
def G_v : S3x384x8x64.Idx → EReal := fun j => Spec.qkvA inv1 scale1 (A0 m c) (A1 m c) (A2 m c) (A3 m c) (A4 m c) (A5 m c) (A6 m c) (A7 m c) (j 0) (j 1) (Spec.vCol (j 2) (j 3))

/-- The result `xc` of the arguments. -/
def G_xc : S3x384x2048.Idx → EReal := fun j => Spec.xcA inv1 (A0 m c) (A1 m c) (A2 m c) (A3 m c) (A4 m c) (A5 m c) (j 0) (j 1) (j 2)

/-- The result `xs` of the arguments. -/
def G_xs : S3x384x16.Idx → EReal := fun j => Spec.xsA scale1 (A0 m c) (A1 m c) (A2 m c) (A3 m c) (A4 m c) (A5 m c) (j 0) (j 1) (j 2)

/-- The transposed results, read through the host's transposes. -/
theorem tail_q : Pipeline.afterTail₀ cfgs (dats m) 0 (V0 m) [hostOps1] c main_v4 = G_q m c := by
  unfold Pipeline.afterTail₀
  show StableHlo.after hostOps1 _ _ = _
  after_results
  rw [show Pipeline.withArrays (cfgs 0).spec c (V0 m c) (fun w => (dats m 0 c).arrAt w (cfgs 0).N) (Proc.devRef .tc main_v3_1) = (dats m 0 c).arrAt 11 (cfgs 0).N
    from Pipeline.withArrays_arr _ winFacts0.arr_inj c (V0 m c) _ 11, arr_q]
  funext j
  obtain ⟨b, s, h, d, rfl⟩ : ∃ (b : Fin 3) (s : Fin 384) (h : Fin 32) (d : Fin 64), j = ix4 b s h d := ⟨j 0, j 1, j 2, j 3, eq_ix4 j⟩
  pointwise [G_q]

theorem tail_k : Pipeline.afterTail₀ cfgs (dats m) 0 (V0 m) [hostOps1] c main_v5 = G_k m c := by
  unfold Pipeline.afterTail₀
  show StableHlo.after hostOps1 _ _ = _
  after_results
  rw [show Pipeline.withArrays (cfgs 0).spec c (V0 m c) (fun w => (dats m 0 c).arrAt w (cfgs 0).N) (Proc.devRef .tc main_v3_2) = (dats m 0 c).arrAt 12 (cfgs 0).N
    from Pipeline.withArrays_arr _ winFacts0.arr_inj c (V0 m c) _ 12, arr_k]
  funext j
  obtain ⟨b, s, h, d, rfl⟩ : ∃ (b : Fin 3) (s : Fin 384) (h : Fin 8) (d : Fin 64), j = ix4 b s h d := ⟨j 0, j 1, j 2, j 3, eq_ix4 j⟩
  pointwise [G_k]

theorem tail_v : Pipeline.afterTail₀ cfgs (dats m) 0 (V0 m) [hostOps1] c main_v6 = G_v m c := by
  unfold Pipeline.afterTail₀
  show StableHlo.after hostOps1 _ _ = _
  after_results
  rw [show Pipeline.withArrays (cfgs 0).spec c (V0 m c) (fun w => (dats m 0 c).arrAt w (cfgs 0).N) (Proc.devRef .tc main_v3_3) = (dats m 0 c).arrAt 13 (cfgs 0).N
    from Pipeline.withArrays_arr _ winFacts0.arr_inj c (V0 m c) _ 13, arr_v]
  funext j
  obtain ⟨b, s, h, d, rfl⟩ : ∃ (b : Fin 3) (s : Fin 384) (h : Fin 8) (d : Fin 64), j = ix4 b s h d := ⟨j 0, j 1, j 2, j 3, eq_ix4 j⟩
  pointwise [G_v]

theorem tail_xs : Pipeline.afterTail₀ cfgs (dats m) 0 (V0 m) [hostOps1] c main_v7 = G_xs m c := by
  unfold Pipeline.afterTail₀
  show StableHlo.after hostOps1 _ _ = _
  after_results
  rw [show Pipeline.withArrays (cfgs 0).spec c (V0 m c) (fun w => (dats m 0 c).arrAt w (cfgs 0).N) (Proc.devRef .tc main_v3_5) = (dats m 0 c).arrAt 15 (cfgs 0).N
    from Pipeline.withArrays_arr _ winFacts0.arr_inj c (V0 m c) _ 15, arr_xs]
  funext j
  obtain ⟨b, s, g, rfl⟩ : ∃ (b : Fin 3) (s : Fin 384) (g : Fin 16), j = ix3 b s g := ⟨j 0, j 1, j 2, eq_ix3 j⟩
  pointwise [G_xs]

variable (ρ : Dev nD → PrngReg)

/-- The launch leaves the arguments as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- … and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨h.1, h.2.2⟩) (θ_run_and (unchanged m ρ) (run_main_quiescent m ρ))

/-- The kernel's results at every final state. -/
theorem results : θ_run defs (onTc (τ := τ) (main (F := Ideal))) ⟨m, fun _ => 0, ρ⟩ (fun r => ∀ c : Dev nD,
      r.2.mem ((c.tc : Thread nD τ).loc main_v3_0) = G_ro m c
      ∧ r.2.mem ((c.tc : Thread nD τ).loc main_v4) = G_q m c
      ∧ r.2.mem ((c.tc : Thread nD τ).loc main_v5) = G_k m c
      ∧ r.2.mem ((c.tc : Thread nD τ).loc main_v6) = G_v m c
      ∧ r.2.mem ((c.tc : Thread nD τ).loc main_v3_4) = G_xc m c
      ∧ r.2.mem ((c.tc : Thread nD τ).loc main_v7) = G_xs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1.1 c).1 10).trans (arr_ro m c),
      ((h.1.1 c).2 main_v4 (Pipeline.mem_restRefs_of main_v4 (by decide) (by decide))).trans (tail_q m c),
      ((h.1.1 c).2 main_v5 (Pipeline.mem_restRefs_of main_v5 (by decide) (by decide))).trans (tail_k m c),
      ((h.1.1 c).2 main_v6 (Pipeline.mem_restRefs_of main_v6 (by decide) (by decide))).trans (tail_v m c),
      ((h.1.1 c).1 14).trans (arr_xc m c),
      ((h.1.1 c).2 main_v7 (Pipeline.mem_restRefs_of main_v7 (by decide) (by decide))).trans (tail_xs m c), h.2 c⟩)
    (θ_run_and (run_main_quiescent m ρ) (unchanged m ρ))

end Cert.KernelIdeal.Hand

end
-- ==== Proof.RefDown.lean ====
/- What the reference's payloads are over the reals, element by element: the plain functions of `Spec.lean`, one batch entry
   at a time. -/
module

public import proofs.«01_k».proof.Proof.Spec
public import proofs.«01_k».proof.Proof.Gen.ReferenceIdeal.Frame

@[expose] public section

set_option maxRecDepth 16384

noncomputable section

namespace Cert.ReferenceIdeal.Hand

open Cert.ReferenceIdeal.Gen
open Idealize.ShloMosaic Idealize.SL.Sem

/-- The first result. -/
theorem pay1_apply (v0 : Vec Ideal S3x384x8192 .fp8e4m3) (v1 : Vec Ideal S3x384x64 .f32) (v9 : Vec Ideal S8192x2048 .fp8e4m3) (v10 : Vec Ideal S64x16 .f32)
    (v19 : Vec Ideal S3x384x2048 .bf16) (b : Fin 3) (s : Fin 384) (d : Fin 2048) :
    k0_pay1 v0 v1 v9 v10 v19 (ix3 b s d) =
      Spec.ro (fun s d => v19 (ix3 b s d)) (fun s f => v0 (ix3 b s f)) (fun s g => v1 (ix3 b s g)) (fun f d => v9 (ix2 f d)) (fun k n => v10 (ix2 k n)) s d := by
  pointwise [k0_pay1, Spec.ro]

/-- The normed rows, cut into runs. -/
theorem pay3_apply (v0 : Vec Ideal S3x384x8192 .fp8e4m3) (v1 : Vec Ideal S3x384x64 .f32) (v9 : Vec Ideal S8192x2048 .fp8e4m3) (v10 : Vec Ideal S64x16 .f32)
    (v19 : Vec Ideal S3x384x2048 .bf16) (v34 : Vec Ideal S2048 .f32) (b : Fin 3) (s : Fin 384) (g : Fin 16) (l : Fin 128) :
    k0_pay3 v0 v1 v9 v10 v19 v34 (ix4 b s g l) =
      k0_pay1 v0 v1 v9 v10 v19 (ix3 b s ⟨128 * g.val + l.val, by omega⟩) *
        Ideal.rsqrt (Ideal.div (∑ d : Fin 2048, k0_pay1 v0 v1 v9 v10 v19 (ix3 b s d) * k0_pay1 v0 v1 v9 v10 v19 (ix3 b s d)) (Ideal.ofBits .f32 0x45000000#32) +
          Ideal.ofBits .f32 0x358637BD#32) * v34 (ix1 ⟨128 * g.val + l.val, by omega⟩) := by
  pointwise [k0_pay3]
  rw [show (⟨g.val * 128 + l.val, by omega⟩ : Fin 2048) = ⟨128 * g.val + l.val, by omega⟩ from Fin.ext (by simp only; omega)]

end Cert.ReferenceIdeal.Hand

end
-- ==== Proof.Scale.lean ====
/- The quantiser's scale as the reference states it, over the reals. -/
module

public import Idealize.ShloMosaic.PureOps.Ideal

@[expose] public section

noncomputable section

namespace Cert.Spec

open Idealize.ShloMosaic

/-- The least of the table's powers above `y`; 1 for a `y` under the normal range. -/
def rscale (P : Fin 253 → EReal) (y : EReal) : EReal :=
  if y < Ideal.ofBits .f32 0x00800000#32 then Ideal.ofBits .f32 0x3F800000#32
  else Finset.fold min (Ideal.ofBits .f32 0x7F800000#32) (fun k : Fin 253 => if y < P k then P k else Ideal.ofBits .f32 0x7F800000#32) Finset.univ

/-- One over it. -/
def rinv (P : Fin 253 → EReal) (y : EReal) : EReal := Ideal.div (Ideal.ofBits .f32 0x3F800000#32) (rscale P y)

end Cert.Spec

end
-- ==== Proof.RefQuant4.lean ====
/- What the reference's payloads are over the reals, element by element: the plain functions of `Spec.lean`, one batch entry
   at a time. -/
module

public import proofs.«01_k».proof.Proof.Spec
public import proofs.«01_k».proof.Proof.Scale
public import proofs.«01_k».proof.Proof.Gen.ReferenceIdeal.Frame

@[expose] public section

set_option maxRecDepth 16384

noncomputable section

namespace Cert.ReferenceIdeal.Hand

open Cert.ReferenceIdeal.Gen
open Idealize.ShloMosaic Idealize.SL.Sem

/-- The scales: the least power of two in the table above a run's magnitude, or one. -/
theorem pay4_apply (P : FVec Ideal S253 .f32) (x : FVec Ideal S3x384x16x128 .f32) (b : Fin 3) (s : Fin 384) (g : Fin 16) :
    k0_pay4 P x (ix3 b s g) = Spec.rscale (fun k => P (ix1 k))
      (Finset.fold max (Ideal.ofBits .f32 0xFF800000#32) (fun l : Fin 128 => FloatOps.absf (F := Ideal) (φ := .f32) (x (ix4 b s g l))) Finset.univ *
        Ideal.ofBits .f32 0x3B124925#32) := by
  pointwise [k0_pay4, Spec.rscale]

end Cert.ReferenceIdeal.Hand

end
-- ==== Proof.RefQuant5.lean ====
/- What the reference's payloads are over the reals, element by element: the plain functions of `Spec.lean`, one batch entry
   at a time. -/
module

public import proofs.«01_k».proof.Proof.RefQuant4

@[expose] public section

set_option maxRecDepth 16384

noncomputable section

namespace Cert.ReferenceIdeal.Hand

open Cert.ReferenceIdeal.Gen
open Idealize.ShloMosaic Idealize.SL.Sem

/-- The codes. -/
theorem pay5_apply (P : FVec Ideal S253 .f32) (x : FVec Ideal S3x384x16x128 .f32) (b : Fin 3) (s : Fin 384) (d : Fin 2048) :
    k0_pay5 P x (ix3 b s d) = min (Ideal.ofBits .f32 0x43E00000#32) (max (Ideal.ofBits .f32 0xC3E00000#32)
      (x (ix4 b s ⟨d.val / 128, by omega⟩ ⟨d.val % 128, by omega⟩) *
        Ideal.div (Ideal.ofBits .f32 0x3F800000#32) (k0_pay4 P x (ix3 b s ⟨d.val / 128, by omega⟩)))) := by
  pointwise [k0_pay5]

end Cert.ReferenceIdeal.Hand

end
-- ==== Proof.RefProj.lean ====
/- What the reference's payloads are over the reals, element by element: the plain functions of `Spec.lean`, one batch entry
   at a time. -/
module

public import proofs.«01_k».proof.Proof.Spec
public import proofs.«01_k».proof.Proof.Gen.ReferenceIdeal.Frame

@[expose] public section

set_option maxRecDepth 16384

noncomputable section

namespace Cert.ReferenceIdeal.Hand

open Cert.ReferenceIdeal.Gen
open Idealize.ShloMosaic Idealize.SL.Sem

/-- The qkv projection. -/
theorem pay6_apply (P : FVec Ideal S253 .f32) (x : FVec Ideal S3x384x16x128 .f32) (w : Vec Ideal S2048x3072 .fp8e4m3) (ws : Vec Ideal S16x24 .f32)
    (b : Fin 3) (s : Fin 384) (n : Fin 3072) :
    k0_pay6 P x w ws (ix3 b s n) =
      Spec.qkv (fun s d => k0_pay5 P x (ix3 b s d) * k0_pay4 P x (ix3 b s ⟨d.val / 128, by omega⟩)) (fun d n => w (ix2 d n)) (fun k n => ws (ix2 k n)) s n := by
  pointwise [k0_pay6, Spec.qkv]

end Cert.ReferenceIdeal.Hand

end
-- ==== Proof.RefRope.lean ====
/- What the reference's payloads are over the reals, element by element: the plain functions of `Spec.lean`, one batch entry
   at a time. -/
module

public import proofs.«01_k».proof.Proof.Spec
public import proofs.«01_k».proof.Proof.Gen.ReferenceIdeal.Frame

@[expose] public section

set_option maxRecDepth 16384

noncomputable section

namespace Cert.ReferenceIdeal.Hand

open Cert.ReferenceIdeal.Gen
open Idealize.ShloMosaic Idealize.SL.Sem

/-- The rotated heads. -/
theorem pay8_apply (p : FVec Ideal S3x384x3072 .f32) (ps : Vec Ideal S3x384 .i32) (f : Vec Ideal S32 .f32) (b : Fin 3) (s : Fin 384) (e : Fin 8) (j : Fin 5) (d : Fin 64) :
    k0_pay8 p ps f (ix5 b s e j d) =
      Spec.rope (fun s n => p (ix3 b s n)) (fun s i => Ideal.cos (FloatOps.sitofp (F := Ideal) .f32 (ps (ix2 b s)) * f (ix1 i)))
        (fun s i => Ideal.sin (FloatOps.sitofp (F := Ideal) .f32 (ps (ix2 b s)) * f (ix1 i))) s ⟨6 * e.val + j.val, by omega⟩ d := by
  pointwise [k0_pay8, k0_pay7, Spec.rope]
  refine dite_congr rfl (fun h => ?_) (fun h => ?_)
  · rw [show (⟨e.val * 384 + j.val * 64 + d.val, by omega⟩ : Fin 3072) = ⟨64 * (6 * e.val + j.val) + d.val, by omega⟩ from Fin.ext (by simp only; omega),
      show (⟨e.val * 384 + j.val * 64 + (32 + d.val), by omega⟩ : Fin 3072) = ⟨64 * (6 * e.val + j.val) + 32 + d.val, by omega⟩ from Fin.ext (by simp only; omega)]
  · rw [show (⟨e.val * 384 + j.val * 64 + (32 + (d.val - 32)), by omega⟩ : Fin 3072) = ⟨64 * (6 * e.val + j.val) + 32 + (d.val - 32), by omega⟩ from Fin.ext (by simp only; omega),
      show (⟨e.val * 384 + j.val * 64 + (d.val - 32), by omega⟩ : Fin 3072) = ⟨64 * (6 * e.val + j.val) + (d.val - 32), by omega⟩ from Fin.ext (by simp only; omega)]

end Cert.ReferenceIdeal.Hand

end
-- ==== Proof.RefHeads.lean ====
/- What the reference's payloads are over the reals, element by element: the plain functions of `Spec.lean`, one batch entry
   at a time. -/
module

public import proofs.«01_k».proof.Proof.Spec
public import proofs.«01_k».proof.Proof.Gen.ReferenceIdeal.Frame

@[expose] public section

set_option maxRecDepth 16384

noncomputable section

namespace Cert.ReferenceIdeal.Hand

open Cert.ReferenceIdeal.Gen
open Idealize.ShloMosaic Idealize.SL.Sem

/-- The q heads, taken from the rotated ones. -/
theorem pay9_apply (p : FVec Ideal S3x384x3072 .f32) (ps : Vec Ideal S3x384 .i32) (f : Vec Ideal S32 .f32) (b : Fin 3) (s : Fin 384) (h : Fin 32) (d : Fin 64) :
    k0_pay9 p ps f (ix4 b s h d) = k0_pay8 p ps f (ix5 b s ⟨h.val / 4, by omega⟩ ⟨h.val % 4, by omega⟩ d) := by
  pointwise [k0_pay9]

/-- The k heads. -/
theorem pay10_apply (p : FVec Ideal S3x384x3072 .f32) (ps : Vec Ideal S3x384 .i32) (f : Vec Ideal S32 .f32) (b : Fin 3) (s : Fin 384) (h : Fin 8) (d : Fin 64) :
    k0_pay10 p ps f (ix4 b s h d) = k0_pay8 p ps f (ix5 b s h 4 d) := by
  pointwise [k0_pay10]

/-- The v heads. -/
theorem pay11_apply (p : FVec Ideal S3x384x3072 .f32) (b : Fin 3) (s : Fin 384) (h : Fin 8) (d : Fin 64) :
    k0_pay11 p (ix4 b s h d) = p (ix3 b s ⟨64 * (6 * h.val + 5) + d.val, by omega⟩) := by
  pointwise [k0_pay11, k0_pay7]
  rw [show (⟨h.val * 384 + 320 + d.val, by omega⟩ : Fin 3072) = ⟨64 * (6 * h.val + 5) + d.val, by omega⟩ from Fin.ext (by simp only; omega)]

end Cert.ReferenceIdeal.Hand

end
-- ==== Proof.Quant.lean ====
/- The quantiser's scale over the reals: the kernel's search for the exponent bits, bit by bit, finds the greatest power of two
   at or under its argument, so its scale is the least power of two above; the reference takes that least power from a table. -/
module

public import proofs.«01_k».proof.Proof.Meaning
public import proofs.«01_k».proof.Proof.Scale

@[expose] public section

set_option maxRecDepth 16384

noncomputable section

namespace Cert.Quant

open Idealize.ShloMosaic
open Cert.KernelIdeal.Hand (bit1 bits1 scale1 inv1)
open Cert.Spec (rscale rinv)

/-! ## Words that hold an exponent and nothing else -/

/-- The word with exponent field `x`. -/
def word (x : Fin 256) : BitVec 32 := BitVec.ofNat 32 (x.val * 8388608)

/-- What it denotes. -/
def val (x : Fin 256) : EReal := Ideal.ofBits .f32 (word x)

/-- The sign and exponent fields of a pattern without fraction. -/
theorem word_fields : ∀ x : Fin 256, ((word x).extractLsb' 31 1 == 1#1) = false ∧ ((word x).extractLsb' 23 8).toNat = x.val ∧
    ((word x).extractLsb' 0 23).toNat = 0 := by
  decide +kernel

/-- The number of a pattern with exponent 1 to 254. -/
theorem val_normal (x : Fin 256) (h0 : x.val ≠ 0) (h1 : x.val ≠ 255) : val x = (((2 : ℝ) ^ ((x.val : ℤ) - 127) : ℝ) : EReal) := by
  obtain ⟨a, b, c⟩ := word_fields x
  simp only [val, Ideal.ofBits, Ideal.ieee, a, b, c]
  rw [if_neg (by omega), if_neg h0]
  congr 1
  rw [show ((x.val : ℤ) - 127) = 23 + ((x.val : ℤ) - (2 ^ (8 - 1) - 1) - (23 : ℕ)) by norm_num, zpow_add₀ (by norm_num)]
  norm_num

/-- The number of the zero pattern. -/
theorem val_zero : val 0 = 0 := by
  obtain ⟨a, b, c⟩ := word_fields 0
  simp [val, Ideal.ofBits, Ideal.ieee, a, b, c]

/-- The number of the last pattern. -/
theorem val_top : val 255 = ⊤ := by
  obtain ⟨a, b, c⟩ := word_fields 255
  simp [val, Ideal.ofBits, Ideal.ieee, a, b, c]

/-- The numbers grow with the exponent. -/
theorem val_lt {a b : Fin 256} (h : a < b) : val a < val b := by
  have h' : a.val < b.val := h
  have hb := b.isLt
  by_cases b1 : b.val = 255
  · rw [show b = 255 from Fin.ext b1, val_top]
    by_cases a0 : a.val = 0
    · rw [show a = 0 from Fin.ext a0, val_zero]; exact EReal.zero_lt_top
    · rw [val_normal a a0 (by omega)]; exact EReal.coe_lt_top _
  · rw [val_normal b (by omega) b1]
    by_cases a0 : a.val = 0
    · rw [show a = 0 from Fin.ext a0, val_zero]; exact EReal.coe_pos.mpr (by positivity)
    · rw [val_normal a a0 (by omega)]
      exact EReal.coe_lt_coe_iff.mpr (zpow_lt_zpow_right₀ (by norm_num) (by omega))

/-- And so they compare as the exponents do. -/
theorem val_le_iff {a b : Fin 256} : val a ≤ val b ↔ a ≤ b := by
  constructor
  · intro h
    by_contra h'
    exact absurd (val_lt (not_le.mp h')) (not_lt.mpr h)
  · intro h
    rcases h.lt_or_eq with h | h
    · exact (val_lt h).le
    · rw [h]

/-- Every `y` at least zero sits at or above exactly the powers up to one. -/
theorem exists_exponent {y : EReal} (hy : 0 ≤ y) : ∃ e : Fin 256, ∀ a, val a ≤ y ↔ a ≤ e := by
  classical
  have hne : (Finset.univ.filter fun a => val a ≤ y).Nonempty := ⟨0, by simp [val_zero, hy]⟩
  refine ⟨(Finset.univ.filter fun a => val a ≤ y).max' hne, fun a => ⟨fun h => Finset.le_max' _ _ (by simp [h]), fun h => ?_⟩⟩
  have := (Finset.mem_filter.mp (Finset.max'_mem _ hne)).2
  exact (val_le_iff.mpr h).trans this

/-! ## The search -/

/-- The bits of an exponent, from the top down. -/
def places : List (Fin 256) := [128, 64, 32, 16, 8, 4, 2, 1]

/-- Setting an exponent bit of a pattern. -/
theorem word_or : ∀ a : Fin 256, ∀ b ∈ places, word a ||| word b = word (a ||| b) := by
  decide +kernel

/-- The search on numbers is the search on exponents. -/
theorem search_word {y : EReal} {e : Fin 256} (he : ∀ a, val a ≤ y ↔ a ≤ e) (L : List (Fin 256)) :
    ∀ (_ : ∀ b ∈ L, b ∈ places) (t : Fin 256), (L.map word).foldl (bit1 y) (word t) =
      word (L.foldl (fun t b => if t ||| b ≤ e then t ||| b else t) t) := by
  induction L with
  | nil => intro _ t; rfl
  | cons b L ih =>
    intro h t
    rw [List.map_cons, List.foldl_cons, List.foldl_cons, bit1, word_or t b (h b List.mem_cons_self)]
    by_cases c : t ||| b ≤ e
    · rw [if_pos (show Ideal.ofBits .f32 (word (t ||| b)) ≤ y from (he _).mpr c), if_pos c]
      exact ih (fun b hb => h b (List.mem_cons_of_mem _ hb)) _
    · rw [if_neg (show ¬ Ideal.ofBits .f32 (word (t ||| b)) ≤ y from fun hc => c ((he _).mp hc)), if_neg c]
      exact ih (fun b hb => h b (List.mem_cons_of_mem _ hb)) _

/-- The search on exponents finds the exponent. -/
theorem search_finds : ∀ e : Fin 256, places.foldl (fun t b => if t ||| b ≤ e then t ||| b else t) 0 = e := by
  decide +kernel

/-- The search finds the exponent of the largest pattern at most `y`. -/
theorem bits1_eq {y : EReal} {e : Fin 256} (he : ∀ a, val a ≤ y ↔ a ≤ e) : bits1 y = word e := by
  have h := search_word he places (fun b hb => hb) 0
  rw [search_finds e] at h
  exact h

/-! ## The scale and its inverse -/

/-- Only the exponent zero has the zero pattern. -/
theorem word_eq_zero : ∀ e : Fin 256, word e = 0#32 ↔ e = 0 := by decide +kernel
/-- Adding one to the exponent field. -/
theorem word_succ : ∀ e : Fin 255, word ⟨e.val, by omega⟩ + 8388608#32 = word ⟨e.val + 1, by omega⟩ := by decide +kernel
/-- Negating the exponent field. -/
theorem word_sub : ∀ e : Fin 254, 2122317824#32 - word ⟨e.val, by omega⟩ = word ⟨253 - e.val, by omega⟩ := by decide +kernel

/-- The pattern of one. -/
theorem one_eq : Ideal.ofBits .f32 0x3F800000#32 = 1 := by
  rw [show (0x3F800000#32 : BitVec 32) = word 127 by decide +kernel]
  change val 127 = 1
  rw [val_normal 127 (by decide) (by decide)]
  norm_num

/-- The kernel's scale by the exponent. -/
theorem scale1_eq {y : EReal} {e : Fin 256} (he : ∀ a, val a ≤ y ↔ a ≤ e) (h : e.val ≤ 252) :
    scale1 y = if e = 0 then 1 else val ⟨e.val + 1, by omega⟩ := by
  unfold scale1
  rw [bits1_eq he, show (1065353216#32 : BitVec 32) = 0x3F800000#32 from rfl]
  by_cases h0 : e = 0
  · rw [if_pos ((word_eq_zero e).mpr h0), if_pos h0, one_eq]
  · rw [if_neg (fun c => h0 ((word_eq_zero e).mp c)), if_neg h0]
    exact congrArg (Ideal.ofBits .f32) (word_succ ⟨e.val, by omega⟩)

/-- The kernel's factor by the exponent. -/
theorem inv1_eq {y : EReal} {e : Fin 256} (he : ∀ a, val a ≤ y ↔ a ≤ e) (h : e.val ≤ 252) :
    inv1 y = if e = 0 then 1 else val ⟨253 - e.val, by omega⟩ := by
  unfold inv1
  rw [bits1_eq he, show (1065353216#32 : BitVec 32) = 0x3F800000#32 from rfl]
  by_cases h0 : e = 0
  · rw [if_pos ((word_eq_zero e).mpr h0), if_pos h0, one_eq]
  · rw [if_neg (fun c => h0 ((word_eq_zero e).mp c)), if_neg h0]
    exact congrArg (Ideal.ofBits .f32) (word_sub ⟨e.val, by omega⟩)

/-- The reference's scale by the exponent. -/
theorem rscale_eq {P : Fin 253 → EReal} (hP : ∀ k, P k = val ⟨k.val + 2, by omega⟩) {y : EReal} {e : Fin 256} (he : ∀ a, val a ≤ y ↔ a ≤ e)
    (h : e.val ≤ 252) : rscale P y = if e = 0 then 1 else val ⟨e.val + 1, by omega⟩ := by
  have above : ∀ k : Fin 253, y < P k ↔ e.val < k.val + 2 := by
    intro k
    rw [hP, ← not_le, he, not_le]
    exact Iff.rfl
  unfold rscale
  rw [show (Ideal.ofBits .f32 0x00800000#32) = val 1 from congrArg (Ideal.ofBits .f32) (by decide +kernel), one_eq,
    show (Ideal.ofBits .f32 0x7F800000#32) = ⊤ from (congrArg (Ideal.ofBits .f32) (by decide +kernel : (0x7F800000#32 : BitVec 32) = word 255)).trans val_top]
  by_cases h0 : e = 0
  · rw [if_pos h0, if_pos (by rw [← not_le, he, h0]; decide)]
  · have he0 : e.val ≠ 0 := fun c => h0 (Fin.ext c)
    rw [if_neg h0, if_neg (by rw [not_lt, he]; exact Fin.le_def.mpr (by simp only [Fin.val_one]; omega))]
    apply le_antisymm
    · rw [Finset.fold_min_le]
      refine Or.inr ⟨⟨e.val - 1, by omega⟩, Finset.mem_univ _, ?_⟩
      rw [if_pos ((above _).mpr (by simp only; omega)), hP]
      exact le_of_eq (congrArg val (Fin.ext (by simp only; omega)))
    · rw [Finset.le_fold_min]
      refine ⟨le_top, fun k _ => ?_⟩
      by_cases c : y < P k
      · rw [if_pos c, hP]
        exact val_le_iff.mpr (Fin.le_def.mpr (by have := (above k).mp c; simp only; omega))
      · rw [if_neg c]; exact le_top

/-- The reference's factor by the exponent. -/
theorem rinv_eq {P : Fin 253 → EReal} (hP : ∀ k, P k = val ⟨k.val + 2, by omega⟩) {y : EReal} {e : Fin 256} (he : ∀ a, val a ≤ y ↔ a ≤ e)
    (h : e.val ≤ 252) : rinv P y = if e = 0 then 1 else val ⟨253 - e.val, by omega⟩ := by
  unfold rinv
  rw [rscale_eq hP he h, one_eq]
  by_cases h0 : e = 0
  · rw [if_pos h0, if_pos h0, ← EReal.coe_one, Ideal.div_coe one_ne_zero]; norm_num
  · have he0 : e.val ≠ 0 := fun c => h0 (Fin.ext c)
    rw [if_neg h0, if_neg h0, val_normal _ (by simp) (by simp only; omega), val_normal _ (by simp only; omega) (by simp only; omega),
      Ideal.div_coe (by positivity), one_mul]
    congr 1
    rw [one_div, ← zpow_neg]
    congr 1
    simp only
    omega

/-- On `0 ≤ y < 2^126` the kernel's scale and factor are the reference's. -/
theorem agree {P : Fin 253 → EReal} (hP : ∀ k, P k = val ⟨k.val + 2, by omega⟩) {y : EReal} (h0 : 0 ≤ y) (h1 : y < (((2 : ℝ) ^ 126 : ℝ) : EReal)) :
    scale1 y = rscale P y ∧ inv1 y = rinv P y := by
  obtain ⟨e, he⟩ := exists_exponent h0
  have h : e.val ≤ 252 := by
    by_contra c
    have : val 253 ≤ y := (he 253).mpr (Fin.le_def.mpr (by change 253 ≤ e.val; omega))
    rw [val_normal 253 (by decide) (by decide)] at this
    refine absurd (lt_of_le_of_lt this h1) (not_lt.mpr (le_of_eq ?_))
    congr 1
  exact ⟨(scale1_eq he h).trans (rscale_eq hP he h).symm, (inv1_eq he h).trans (rinv_eq hP he h).symm⟩

end Cert.Quant

end
-- ==== Proof.RefMean.lean ====
/- Small facts on the reference's constants over the reals: dividing by 2048 is multiplying by its reciprocal, and the table of
   powers of two is what it says. -/
module

public import proofs.«01_k».proof.Proof.Quant

@[expose] public section

noncomputable section

namespace Cert.Quant

open Idealize.ShloMosaic

/-- Dividing by 2048 is multiplying by its reciprocal. -/
theorem div_2048 (x : EReal) : Ideal.div x (Ideal.ofBits .f32 0x45000000#32) = x * Ideal.ofBits .f32 0x3A000000#32 := by
  have h1 : Ideal.ofBits .f32 0x45000000#32 = ((2048 : ℝ) : EReal) := by
    simp [Ideal.ofBits, Ideal.ieee, -EReal.coe_mul]; norm_num
  have h2 : Ideal.ofBits .f32 0x3A000000#32 = ((1 / 2048 : ℝ) : EReal) := by
    simp [Ideal.ofBits, Ideal.ieee, -EReal.coe_mul]; norm_num
  rw [h1, h2, Ideal.div_coe (by norm_num)]

/-- The entry k of the table is 2^(k - 125). -/
theorem power (k : Fin 253) :
    Ideal.pow (Ideal.ofBits .f32 1073741824#32) (FloatOps.sitofp (F := Ideal) FTy.f32 (IntOp.addi (4294967171#32) (BitVec.ofNat 32 k.val))) =
      val ⟨k.val + 2, by omega⟩ := by
  have h2 : Ideal.ofBits .f32 1073741824#32 = ((2 : ℝ) : EReal) := by
    simp [Ideal.ofBits, Ideal.ieee, -EReal.coe_mul]; norm_num
  have hi : (IntOp.addi (4294967171#32) (BitVec.ofNat 32 k.val)).toInt = (k.val : ℤ) - 125 := by
    revert k; decide +kernel
  rw [val_normal _ (by simp) (by simp; omega), h2]
  show Ideal.pow _ (((IntOp.addi (4294967171#32) (BitVec.ofNat 32 k.val)).toInt : ℝ) : EReal) = _
  rw [hi]
  show ((Real.rpow 2 (((k.val : ℤ) - 125 : ℤ) : ℝ) : ℝ) : EReal) = _
  congr 1
  refine (Real.rpow_intCast 2 _).trans (congrArg _ ?_)
  show (k.val : ℤ) - 125 = ((k.val + 2 : ℕ) : ℤ) - 127
  omega

end Cert.Quant

end
-- ==== Proof.RefValues.lean ====
/- The reference's values over its argument arrays: the functions of `Answer.lean` with the quantiser as the reference states it. -/
module

public import proofs.«01_k».proof.Proof.RefDown
public import proofs.«01_k».proof.Proof.RefQuant4
public import proofs.«01_k».proof.Proof.RefQuant5
public import proofs.«01_k».proof.Proof.RefProj
public import proofs.«01_k».proof.Proof.RefRope
public import proofs.«01_k».proof.Proof.RefHeads
public import proofs.«01_k».proof.Proof.RefMean
public import proofs.«01_k».proof.Proof.Answer

@[expose] public section

set_option maxRecDepth 16384

noncomputable section

namespace Cert.ReferenceIdeal.Hand

open Cert.ReferenceIdeal Cert.ReferenceIdeal.Gen
open Idealize.ShloMosaic Idealize.SL.Sem

section values
variable (x0 : Vec Ideal S3x384x8192 .fp8e4m3) (x1 : Vec Ideal S3x384x64 .f32) (x2 : Vec Ideal S8192x2048 .fp8e4m3) (x3 : Vec Ideal S64x16 .f32)
  (x4 : Vec Ideal S3x384x2048 .bf16) (x5 : Vec Ideal S2048 .f32) (x6 : Vec Ideal S2048x3072 .fp8e4m3) (x7 : Vec Ideal S16x24 .f32)
  (x8 : Vec Ideal S3x384 .i32) (x9 : Vec Ideal S32 .f32) (x10 : Vec Ideal S253 .f32)

/-- The residual stream. -/
theorem val_ro (b : Fin 3) (s : Fin 384) (d : Fin 2048) : k0_pay1 x0 x1 x2 x3 x4 (ix3 b s d) = Spec.roA x0 x1 x2 x3 x4 b s d :=
  pay1_apply x0 x1 x2 x3 x4 b s d

/-- The normed rows, in runs of 128. -/
theorem val_xn (b : Fin 3) (s : Fin 384) (g : Fin 16) (l : Fin 128) :
    k0_pay3 x0 x1 x2 x3 x4 x5 (ix4 b s g l) = Spec.xnA x0 x1 x2 x3 x4 x5 b s ⟨128 * g.val + l.val, by omega⟩ := by
  rw [pay3_apply, Quant.div_2048]
  simp only [val_ro]
  rfl

/-- The table of powers the scale is looked up in. -/
abbrev tab (k : Fin 253) : EReal := x10 (ix1 k)

/-- The table of powers as loaded. -/
theorem pay2_apply (k : Fin 253) : k0_pay2 x10 (ix1 k) = x10 (ix1 k) := by
  pointwise [k0_pay2]

/-- The scales. -/
theorem val_xs (b : Fin 3) (s : Fin 384) (g : Fin 16) :
    k0_pay4 (k0_pay2 x10) (k0_pay3 x0 x1 x2 x3 x4 x5) (ix3 b s g) = Spec.xsA (Spec.rscale (tab x10)) x0 x1 x2 x3 x4 x5 b s g := by
  rw [pay4_apply]
  simp only [val_xn, pay2_apply]
  rfl

/-- The codes. -/
theorem val_xc (b : Fin 3) (s : Fin 384) (d : Fin 2048) :
    k0_pay5 (k0_pay2 x10) (k0_pay3 x0 x1 x2 x3 x4 x5) (ix3 b s d) = Spec.xcA (Spec.rinv (tab x10)) x0 x1 x2 x3 x4 x5 b s d := by
  rw [pay5_apply, val_xs, val_xn, show (⟨128 * (d.val / 128) + d.val % 128, by omega⟩ : Fin 2048) = d from Fin.ext (by simp only; omega)]
  rfl

/-- The qkv projection. -/
theorem val_qkv (b : Fin 3) (s : Fin 384) (n : Fin 3072) :
    k0_pay6 (k0_pay2 x10) (k0_pay3 x0 x1 x2 x3 x4 x5) x6 x7 (ix3 b s n) = Spec.qkvA (Spec.rinv (tab x10)) (Spec.rscale (tab x10)) x0 x1 x2 x3 x4 x5 x6 x7 b s n := by
  rw [pay6_apply]
  simp only [val_xs, val_xc]
  rfl

/-- The rotated heads. -/
theorem val_rope (b : Fin 3) (s : Fin 384) (e : Fin 8) (j : Fin 5) (d : Fin 64) :
    k0_pay8 (k0_pay6 (k0_pay2 x10) (k0_pay3 x0 x1 x2 x3 x4 x5) x6 x7) x8 x9 (ix5 b s e j d) =
      Spec.ropeA (Spec.rinv (tab x10)) (Spec.rscale (tab x10)) (fun i => x9 (ix1 i)) x0 x1 x2 x3 x4 x5 x6 x7 x8 b s ⟨6 * e.val + j.val, by omega⟩ d := by
  rw [pay8_apply]
  simp only [val_qkv]
  rfl

end values

end Cert.ReferenceIdeal.Hand

end
-- ==== Proof.RRun.lean ====
/- The reference's six results at its final states. -/
module

public import proofs.«01_k».proof.Proof.RefValues
public import Idealize.ShloMosaic.Lib.StableHlo.ReadAt
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The nine arguments. -/
abbrev B0 := m (c.tc.loc main_arg0)
abbrev B1 := m (c.tc.loc main_arg1)
abbrev B2 := m (c.tc.loc main_arg2)
abbrev B3 := m (c.tc.loc main_arg3)
abbrev B4 := m (c.tc.loc main_arg4)
abbrev B5 := m (c.tc.loc main_arg5)
abbrev B6 := m (c.tc.loc main_arg6)
abbrev B7 := m (c.tc.loc main_arg7)
abbrev B8 := m (c.tc.loc main_arg8)

/-- Each window's one block is its array. -/
theorem index_zero : ∀ t : Fin cfg0.N, win0_0.index t = ![0, 0, 0]
    ∧ win0_1.index t = ![0, 0, 0]
    ∧ win0_2.index t = ![0, 0]
    ∧ win0_3.index t = ![0, 0]
    ∧ win0_4.index t = ![0, 0, 0]
    ∧ win0_5.index t = ![0]
    ∧ win0_6.index t = ![0, 0]
    ∧ win0_7.index t = ![0, 0]
    ∧ win0_8.index t = ![0, 0]
    ∧ win0_9.index t = ![0]
    ∧ win0_10.index t = ![0]
    ∧ win0_11.index t = ![0, 0, 0]
    ∧ win0_12.index t = ![0, 0, 0, 0]
    ∧ win0_13.index t = ![0, 0, 0, 0]
    ∧ win0_14.index t = ![0, 0, 0, 0]
    ∧ win0_15.index t = ![0, 0, 0]
    ∧ win0_16.index t = ![0, 0, 0] := by decide +kernel

/-- The one block of each operand is its array. -/
theorem blk0 (t : Fin cfg0.N) : iblk m c 0 t = B0 m c := by
  funext y
  blk_ext [iblk, V_main_arg0, index_zero t]

theorem blk1 (t : Fin cfg0.N) : iblk m c 1 t = B1 m c := by
  funext y
  blk_ext [iblk, V_main_arg1, index_zero t]

theorem blk2 (t : Fin cfg0.N) : iblk m c 2 t = B2 m c := by
  funext y
  blk_ext [iblk, V_main_arg2, index_zero t]

theorem blk3 (t : Fin cfg0.N) : iblk m c 3 t = B3 m c := by
  funext y
  blk_ext [iblk, V_main_arg3, index_zero t]

theorem blk4 (t : Fin cfg0.N) : iblk m c 4 t = B4 m c := by
  funext y
  blk_ext [iblk, V_main_arg4, index_zero t]

theorem blk5 (t : Fin cfg0.N) : iblk m c 5 t = B5 m c := by
  funext y
  blk_ext [iblk, V_main_arg5, index_zero t]

theorem blk6 (t : Fin cfg0.N) : iblk m c 6 t = B6 m c := by
  funext y
  blk_ext [iblk, V_main_arg6, index_zero t]

theorem blk7 (t : Fin cfg0.N) : iblk m c 7 t = B7 m c := by
  funext y
  blk_ext [iblk, V_main_arg7, index_zero t]

theorem blk8 (t : Fin cfg0.N) : iblk m c 8 t = B8 m c := by
  funext y
  blk_ext [iblk, V_main_arg8, index_zero t]

/-- The reference's table of inverse frequencies. -/
def freq (i : Fin 32) : EReal := Ideal.ofBits .f32 (lit0 (S32.rowMajor (ix1 i)))

theorem blk9 (t : Fin cfg0.N) (i : Fin 32) : iblk m c 9 t (ix1 i) = freq i := by
  have e : iblk m c 9 t = V m c main_cst := by
    funext y
    blk_ext [iblk, index_zero t]
  rw [e]
  unfold V freq
  after_reads_at

theorem blk10 (t : Fin cfg0.N) (k : Fin 253) : iblk m c 10 t (ix1 k) = Quant.val ⟨k.val + 2, by omega⟩ := by
  have e : iblk m c 10 t = V m c main_v5 := by
    funext y
    blk_ext [iblk, index_zero t]
  rw [e, ← Quant.power]
  unfold V
  after_reads_at

/-- The table of powers, and the quantiser's scale and reciprocal with it. -/
def powers (k : Fin 253) : EReal := Quant.val ⟨k.val + 2, by omega⟩
/-- The reference's scale. -/
abbrev sc : EReal → EReal := Spec.rscale powers
/-- The reference's factor. -/
abbrev inv : EReal → EReal := Spec.rinv powers

/-- The table that the body reads. -/
theorem tab_eq (t : Fin cfg0.N) : tab (iblk m c 10 t) = powers := funext fun k => blk10 m c t k
/-- The frequencies that the body reads. -/
theorem freq_eq (t : Fin cfg0.N) : (fun i => (iblk m c 9 t (ix1 i) : EReal)) = freq := funext fun i => blk9 m c t i

/-- The result `ro` of the arguments. -/
def G_ro : S3x384x2048.Idx → EReal := fun j => Spec.roA (B0 m c) (B1 m c) (B2 m c) (B3 m c) (B4 m c) (j 0) (j 1) (j 2)

/-- The result `q` of the arguments. -/
def G_q : S3x384x32x64.Idx → EReal := fun j => Spec.ropeA inv sc freq (B0 m c) (B1 m c) (B2 m c) (B3 m c) (B4 m c) (B5 m c) (B6 m c) (B7 m c) (B8 m c) (j 0) (j 1) (Spec.qHead (j 2)) (j 3)

/-- The result `k` of the arguments. -/
def G_k : S3x384x8x64.Idx → EReal := fun j => Spec.ropeA inv sc freq (B0 m c) (B1 m c) (B2 m c) (B3 m c) (B4 m c) (B5 m c) (B6 m c) (B7 m c) (B8 m c) (j 0) (j 1) (Spec.kHead (j 2)) (j 3)

/-- The result `v` of the arguments. -/
def G_v : S3x384x8x64.Idx → EReal := fun j => Spec.qkvA inv sc (B0 m c) (B1 m c) (B2 m c) (B3 m c) (B4 m c) (B5 m c) (B6 m c) (B7 m c) (j 0) (j 1) (Spec.vCol (j 2) (j 3))

/-- The result `xc` of the arguments. -/
def G_xc : S3x384x2048.Idx → EReal := fun j => Spec.xcA inv (B0 m c) (B1 m c) (B2 m c) (B3 m c) (B4 m c) (B5 m c) (j 0) (j 1) (j 2)

/-- The result `xs` of the arguments. -/
def G_xs : S3x384x16.Idx → EReal := fun j => Spec.xsA sc (B0 m c) (B1 m c) (B2 m c) (B3 m c) (B4 m c) (B5 m c) (j 0) (j 1) (j 2)

/-- The first result's array after the launch; the lemmas after it say the same of the others. -/
theorem arr_ro : (dats m 0 c).arrAt 11 (cfgs 0).N = G_ro m c := by
  refine (dats m 0 c).arrAt_eq_of_covers 11 _ (by decide +kernel) fun t hf y => ?_
  have e : ((win0_11.blk t).view.emb y) = y := by blk_ext [index_zero t]
  blk_simp
  rw [after0_11]
  frame_out
  refine Eq.trans ?_ (congrArg (G_ro m c) e).symm
  obtain ⟨b, s, d, rfl⟩ : ∃ (b : Fin 3) (s : Fin 384) (d : Fin 2048), y = ix3 b s d := ⟨y 0, y 1, y 2, eq_ix3 y⟩
  rw [val_ro]
  unfold G_ro
  rw [blk0, blk1, blk2, blk3, blk4]
  rfl

theorem arr_q : (dats m 0 c).arrAt 12 (cfgs 0).N = G_q m c := by
  refine (dats m 0 c).arrAt_eq_of_covers 12 _ (by decide +kernel) fun t hf y => ?_
  have e : ((win0_12.blk t).view.emb y) = y := by blk_ext [index_zero t]
  blk_simp
  rw [after0_12]
  frame_out
  refine Eq.trans ?_ (congrArg (G_q m c) e).symm
  unfold k0_pay14 k0_pay13 k0_pay12
  simp (disch := decide) only [View.ld_unit_lit']
  obtain ⟨b, s, h, d, rfl⟩ : ∃ (b : Fin 3) (s : Fin 384) (h : Fin 32) (d : Fin 64), y = ix4 b s h d := ⟨y 0, y 1, y 2, y 3, eq_ix4 y⟩
  rw [pay9_apply, val_rope, tab_eq, freq_eq]
  unfold G_q
  rw [blk0, blk1, blk2, blk3, blk4, blk5, blk6, blk7, blk8]
  rfl

theorem arr_k : (dats m 0 c).arrAt 13 (cfgs 0).N = G_k m c := by
  refine (dats m 0 c).arrAt_eq_of_covers 13 _ (by decide +kernel) fun t hf y => ?_
  have e : ((win0_13.blk t).view.emb y) = y := by blk_ext [index_zero t]
  blk_simp
  rw [after0_13]
  frame_out
  refine Eq.trans ?_ (congrArg (G_k m c) e).symm
  unfold k0_pay14 k0_pay13 k0_pay12
  simp (disch := decide) only [View.ld_unit_lit']
  obtain ⟨b, s, h, d, rfl⟩ : ∃ (b : Fin 3) (s : Fin 384) (h : Fin 8) (d : Fin 64), y = ix4 b s h d := ⟨y 0, y 1, y 2, y 3, eq_ix4 y⟩
  rw [pay10_apply, val_rope, tab_eq, freq_eq]
  unfold G_k
  rw [blk0, blk1, blk2, blk3, blk4, blk5, blk6, blk7, blk8]
  rfl

theorem arr_v : (dats m 0 c).arrAt 14 (cfgs 0).N = G_v m c := by
  refine (dats m 0 c).arrAt_eq_of_covers 14 _ (by decide +kernel) fun t hf y => ?_
  have e : ((win0_14.blk t).view.emb y) = y := by blk_ext [index_zero t]
  blk_simp
  rw [after0_14]
  frame_out
  refine Eq.trans ?_ (congrArg (G_v m c) e).symm
  unfold k0_pay14 k0_pay13 k0_pay12
  simp (disch := decide) only [View.ld_unit_lit']
  obtain ⟨b, s, h, d, rfl⟩ : ∃ (b : Fin 3) (s : Fin 384) (h : Fin 8) (d : Fin 64), y = ix4 b s h d := ⟨y 0, y 1, y 2, y 3, eq_ix4 y⟩
  rw [pay11_apply, val_qkv, tab_eq]
  unfold G_v
  rw [blk0, blk1, blk2, blk3, blk4, blk5, blk6, blk7]
  rfl

theorem arr_xc : (dats m 0 c).arrAt 15 (cfgs 0).N = G_xc m c := by
  refine (dats m 0 c).arrAt_eq_of_covers 15 _ (by decide +kernel) fun t hf y => ?_
  have e : ((win0_15.blk t).view.emb y) = y := by blk_ext [index_zero t]
  blk_simp
  rw [after0_15]
  frame_out
  refine Eq.trans ?_ (congrArg (G_xc m c) e).symm
  unfold k0_pay13 k0_pay12
  simp (disch := decide) only [View.ld_unit_lit']
  obtain ⟨b, s, d, rfl⟩ : ∃ (b : Fin 3) (s : Fin 384) (d : Fin 2048), y = ix3 b s d := ⟨y 0, y 1, y 2, eq_ix3 y⟩
  rw [val_xc, tab_eq]
  unfold G_xc
  rw [blk0, blk1, blk2, blk3, blk4, blk5]
  rfl

theorem arr_xs : (dats m 0 c).arrAt 16 (cfgs 0).N = G_xs m c := by
  refine (dats m 0 c).arrAt_eq_of_covers 16 _ (by decide +kernel) fun t hf y => ?_
  have e : ((win0_16.blk t).view.emb y) = y := by blk_ext [index_zero t]
  blk_simp
  rw [after0_16]
  frame_out
  refine Eq.trans ?_ (congrArg (G_xs m c) e).symm
  unfold k0_pay13 k0_pay12
  simp (disch := decide) only [View.ld_unit_lit']
  obtain ⟨b, s, d, rfl⟩ : ∃ (b : Fin 3) (s : Fin 384) (d : Fin 16), y = ix3 b s d := ⟨y 0, y 1, y 2, eq_ix3 y⟩
  rw [val_xs, tab_eq]
  unfold G_xs
  rw [blk0, blk1, blk2, blk3, blk4, blk5]
  rfl

variable (ρ : Dev nD → PrngReg)

/-- The reference's results at every final state. -/
theorem results : θ_run defs (onTc (τ := τ) (main (F := Ideal))) ⟨m, fun _ => 0, ρ⟩ (fun r => ∀ c : Dev nD,
      r.2.mem ((c.tc : Thread nD τ).loc main_v6_0) = G_ro m c
      ∧ r.2.mem ((c.tc : Thread nD τ).loc main_v6_1) = G_q m c
      ∧ r.2.mem ((c.tc : Thread nD τ).loc main_v6_2) = G_k m c
      ∧ r.2.mem ((c.tc : Thread nD τ).loc main_v6_3) = G_v m c
      ∧ r.2.mem ((c.tc : Thread nD τ).loc main_v6_4) = G_xc m c
      ∧ r.2.mem ((c.tc : Thread nD τ).loc main_v6_5) = G_xs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1.1 c).1 11).trans (arr_ro m c),
      ((h.1.1 c).1 12).trans (arr_q m c),
      ((h.1.1 c).1 13).trans (arr_k m c),
      ((h.1.1 c).1 14).trans (arr_v m c),
      ((h.1.1 c).1 15).trans (arr_xc m c),
      ((h.1.1 c).1 16).trans (arr_xs m c),
      h.2.1 c⟩)
    (θ_run_and (run_main_quiescent m ρ) (Gen.frame m ρ))

end Cert.ReferenceIdeal.Hand

end
-- ==== Proof.Bound.lean ====
/- A run's largest magnitude over 448 lies in [0, 2^126) when the norm's weights are finite float32 values. The normed row before
   its weight is at most 64 in magnitude whatever the residual holds: its square is at most 2048 times the mean square, and where the
   sum of squares is infinite the reciprocal root is 0. -/
module

public import proofs.«01_k».proof.Proof.Spec

@[expose] public section

noncomputable section

namespace Cert.Quant

open Idealize.ShloMosaic

/-- The magnitude of a real. -/
theorem mag_coe (a : ℝ) : FloatOps.absf (F := Ideal) (φ := .f32) (a : EReal) = ((|a| : ℝ) : EReal) := by
  show max (a : EReal) (-(a : EReal)) = _
  rw [← EReal.coe_neg]
  rcases le_total (-a) a with h | h
  · rw [max_eq_left (EReal.coe_le_coe_iff.2 h), abs_eq_max_neg, max_eq_left h]
  · rw [max_eq_right (EReal.coe_le_coe_iff.2 h), abs_eq_max_neg, max_eq_right h]

/-- A number of bounded magnitude is real. -/
theorem mag_le {x : EReal} {B : ℝ} (h : FloatOps.absf (F := Ideal) (φ := .f32) x ≤ (B : EReal)) : ∃ a : ℝ, x = a ∧ |a| ≤ B := by
  induction x using EReal.rec with
  | bot => exact absurd (le_trans (le_max_right _ _) h) (by simp)
  | top => exact absurd (le_trans (le_max_left _ _) h) (by simp)
  | coe a => exact ⟨a, rfl, by rw [mag_coe] at h; exact EReal.coe_le_coe_iff.1 h⟩

/-- A square is not negative. -/
theorem sq_nonneg' (x : EReal) : 0 ≤ x * x := by
  induction x using EReal.rec with
  | bot => simp
  | top => simp
  | coe a => rw [← EReal.coe_mul]; exact EReal.coe_nonneg.2 (mul_self_nonneg a)

/-- A normed element, before its weight, is real and at most 64 in magnitude. -/
theorem rms_bound (r : Fin 2048 → EReal) (d : Fin 2048) :
    FloatOps.absf (F := Ideal) (φ := .f32) (r d * Ideal.rsqrt ((∑ k : Fin 2048, r k * r k) * Ideal.ofBits .f32 0x3A000000#32 + Ideal.ofBits .f32 0x358637BD#32))
      ≤ ((64 : ℝ) : EReal) := by
  have hc : Ideal.ofBits .f32 0x3A000000#32 = ((1 / 2048 : ℝ) : EReal) := by
    simp [Ideal.ofBits, Ideal.ieee, -EReal.coe_mul]; norm_num
  obtain ⟨e, he, he0⟩ : ∃ e : ℝ, Ideal.ofBits .f32 0x358637BD#32 = (e : EReal) ∧ 0 < e := by
    refine ⟨_, by simp [Ideal.ofBits, Ideal.ieee, -EReal.coe_mul]; rfl, ?_⟩
    norm_num
  rw [hc, he]
  have hle : r d * r d ≤ ∑ k : Fin 2048, r k * r k :=
    Finset.single_le_sum (f := fun k => r k * r k) (fun k _ => sq_nonneg' _) (Finset.mem_univ d)
  have h0 : 0 ≤ ∑ k : Fin 2048, r k * r k := le_trans (sq_nonneg' _) hle
  generalize (∑ k : Fin 2048, r k * r k) = S at hle h0
  generalize r d = x at hle
  induction S using EReal.rec with
  | bot => simp at h0
  | top =>
    rw [EReal.top_mul_coe_of_pos (by norm_num), EReal.top_add_coe, Ideal.rsqrt_top, mul_zero, ← EReal.coe_zero, mag_coe]
    exact EReal.coe_le_coe_iff.2 (by norm_num)
  | coe S =>
    have hx : ∃ a : ℝ, x = a := by
      induction x using EReal.rec with
      | bot => simp at hle
      | top => simp at hle
      | coe a => exact ⟨a, rfl⟩
    obtain ⟨a, rfl⟩ := hx
    rw [← EReal.coe_mul] at hle
    have ha : a * a ≤ S := EReal.coe_le_coe_iff.1 hle
    have hp : 0 < S * (1 / 2048) + e := by nlinarith [mul_self_nonneg a]
    rw [← EReal.coe_mul, ← EReal.coe_add, Ideal.rsqrt_coe]
    rw [if_neg (not_lt.2 hp.le), if_neg hp.ne', ← EReal.coe_mul, mag_coe]
    refine EReal.coe_le_coe_iff.2 ?_
    have hs : 0 < √(S * (1 / 2048) + e) := Real.sqrt_pos.2 hp
    rw [abs_mul, abs_inv, abs_of_pos hs, ← div_eq_mul_inv, div_le_iff₀ hs]
    have h2 : |a| ≤ √(64 ^ 2 * (S * (1 / 2048) + e)) := Real.abs_le_sqrt (by nlinarith [mul_self_nonneg a])
    rwa [Real.sqrt_mul (by norm_num), Real.sqrt_sq (by norm_num)] at h2

/-- So a run's magnitude over 448 is below 2^126. -/
theorem amax_bound (r : Fin 384 → Fin 2048 → EReal) (nw : Fin 2048 → EReal)
    (h : ∀ d, FloatOps.absf (F := Ideal) (φ := .f32) (nw d) ≤ Ideal.ofBits .f32 0x7F7FFFFF#32) (s : Fin 384) (g : Fin 16) :
    0 ≤ Spec.amax (Spec.xn r nw) s g ∧ Spec.amax (Spec.xn r nw) s g < (((2 : ℝ) ^ 126 : ℝ) : EReal) := by
  obtain ⟨M, hM, hM1⟩ : ∃ M : ℝ, Ideal.ofBits .f32 0x7F7FFFFF#32 = (M : EReal) ∧ M < 2 ^ 128 := by
    refine ⟨_, by simp [Ideal.ofBits, Ideal.ieee, -EReal.coe_mul]; rfl, ?_⟩
    norm_num
  obtain ⟨q, hq, hq0, hq1⟩ : ∃ q : ℝ, Ideal.ofBits .f32 0x3B124925#32 = (q : EReal) ∧ 0 < q ∧ q < 1 / 256 := by
    refine ⟨_, by simp [Ideal.ofBits, Ideal.ieee, -EReal.coe_mul]; rfl, ?_, ?_⟩ <;> norm_num
  have hb : Ideal.ofBits .f32 0xFF800000#32 = (⊥ : EReal) := by
    simp [Ideal.ofBits, Ideal.ieee]
  have hx : ∀ d, ∃ a : ℝ, Spec.xn r nw s d = a ∧ |a| ≤ 64 * M := by
    intro d
    obtain ⟨u, hu, hu1⟩ := mag_le (rms_bound (r s) d)
    obtain ⟨w, hw, hw1⟩ := mag_le (hM ▸ h d)
    refine ⟨u * w, ?_, ?_⟩
    · unfold Spec.xn; rw [hu, hw, EReal.coe_mul]
    · rw [abs_mul]; exact mul_le_mul hu1 hw1 (abs_nonneg _) (by norm_num)
  unfold Spec.amax
  rw [hb, hq]
  have hhi : Finset.fold max (⊥ : EReal) (fun l : Fin 128 => FloatOps.absf (F := Ideal) (φ := .f32) (Spec.xn r nw s ⟨128 * g.val + l.val, by omega⟩)) Finset.univ
      ≤ ((64 * M : ℝ) : EReal) := by
    refine Finset.fold_max_le _ |>.2 ⟨bot_le, fun l _ => ?_⟩
    obtain ⟨a, ha, ha1⟩ := hx ⟨128 * g.val + l.val, by omega⟩
    rw [ha, mag_coe]; exact EReal.coe_le_coe_iff.2 ha1
  have hlo : (0 : EReal) ≤ Finset.fold max (⊥ : EReal) (fun l : Fin 128 => FloatOps.absf (F := Ideal) (φ := .f32) (Spec.xn r nw s ⟨128 * g.val + l.val, by omega⟩)) Finset.univ := by
    refine Finset.le_fold_max _ |>.2 (Or.inr ⟨0, Finset.mem_univ _, ?_⟩)
    obtain ⟨a, ha, ha1⟩ := hx ⟨128 * g.val + (0 : Fin 128).val, by omega⟩
    rw [ha, mag_coe]; exact EReal.coe_nonneg.2 (abs_nonneg a)
  generalize (Finset.fold max (⊥ : EReal) (fun l : Fin 128 => FloatOps.absf (F := Ideal) (φ := .f32) (Spec.xn r nw s ⟨128 * g.val + l.val, by omega⟩)) Finset.univ) = z at hhi hlo ⊢
  induction z using EReal.rec with
  | bot => simp at hlo
  | top => exact absurd hhi (not_le.2 (EReal.coe_lt_top _))
  | coe z =>
    rw [← EReal.coe_mul]
    have h1 := EReal.coe_le_coe_iff.1 hhi
    have h0 : 0 ≤ z := EReal.coe_nonneg.1 hlo
    refine ⟨EReal.coe_nonneg.2 (mul_nonneg h0 hq0.le), EReal.coe_lt_coe_iff.2 ?_⟩
    calc z * q ≤ (64 * M) * (1 / 256) := mul_le_mul h1 hq1.le hq0.le (le_trans h0 h1)
      _ < 2 ^ 126 := by norm_num at hM1 ⊢; linarith

end Cert.Quant

end
-- ==== Proof.Agree.lean ====
/- The two programs' results are equal functions of equal arguments: the sums are already written alike, the two tables of inverse
   frequencies are one, and the two quantisers' scales agree on every value that a run's largest magnitude over 448 takes. -/
module

public import proofs.«01_k».proof.Proof.KRun
public import proofs.«01_k».proof.Proof.RRun
public import proofs.«01_k».proof.Proof.Bound
public import proofs.«01_k».proof.Proof.Gen.Pre_norm_w_finite
public import proofs.«01_k».proof.Defs

@[expose] public section

set_option maxRecDepth 16384

noncomputable section

namespace Cert.Proof

open Idealize.ShloMosaic Idealize.ShloMosaic.TcCoe Idealize.SL.Sem

/-- The 32 inverse frequencies are the same words in both programs. -/
theorem freq_eq : Cert.KernelIdeal.Hand.freq = Cert.ReferenceIdeal.Hand.freq := by
  funext i
  have h : ∀ i : Fin 32, Cert.KernelIdeal.lit0 (Cert.KernelIdeal.S32x1.rowMajor (ix2 i 0)) = Cert.ReferenceIdeal.lit0 (Cert.ReferenceIdeal.S32.rowMajor (ix1 i)) := by
    decide +kernel
  unfold Cert.KernelIdeal.Hand.freq Cert.ReferenceIdeal.Hand.freq
  rw [h]

section scales
variable {inv inv' sc sc' : EReal → EReal} {x : Fin 384 → Fin 2048 → EReal}

/-- The codes depend on the factor only at the runs' magnitudes. -/
theorem code_congr (h : ∀ s g, inv (Spec.amax x s g) = inv' (Spec.amax x s g)) : Spec.code inv x = Spec.code inv' x := by
  funext s d
  unfold Spec.code
  rw [h]

/-- And so do the rows read back. -/
theorem xd_congr (h : ∀ s g, inv (Spec.amax x s g) = inv' (Spec.amax x s g)) (h' : ∀ s g, sc (Spec.amax x s g) = sc' (Spec.amax x s g)) :
    Spec.xd inv sc x = Spec.xd inv' sc' x := by
  funext s d
  unfold Spec.xd
  rw [code_congr h, h']

end scales

section agree
variable (a0 : (⟨3, ![3, 384, 8192]⟩ : Shape).Idx → EReal) (a1 : (⟨3, ![3, 384, 64]⟩ : Shape).Idx → EReal)
  (a2 : (⟨2, ![8192, 2048]⟩ : Shape).Idx → EReal) (a3 : (⟨2, ![64, 16]⟩ : Shape).Idx → EReal)
  (a4 : (⟨3, ![3, 384, 2048]⟩ : Shape).Idx → EReal) (a5 : (⟨1, ![2048]⟩ : Shape).Idx → EReal)
  (a6 : (⟨2, ![2048, 3072]⟩ : Shape).Idx → EReal) (a7 : (⟨2, ![16, 24]⟩ : Shape).Idx → EReal)
  (a8 : (⟨2, ![3, 384]⟩ : Shape).Idx → BitVec 32)
  (hnw : ∀ d : Fin 2048, FloatOps.absf (F := Ideal) (φ := .f32) (a5 (ix1 d)) ≤ Ideal.ofBits .f32 0x7F7FFFFF#32)
include hnw

/-- At every run the two programs' scales and factors are equal. -/
theorem scales (b : Fin 3) (s : Fin 384) (g : Fin 16) :
    KernelIdeal.Hand.scale1 (Spec.amax (Spec.xnA a0 a1 a2 a3 a4 a5 b) s g) = ReferenceIdeal.Hand.sc (Spec.amax (Spec.xnA a0 a1 a2 a3 a4 a5 b) s g)
    ∧ KernelIdeal.Hand.inv1 (Spec.amax (Spec.xnA a0 a1 a2 a3 a4 a5 b) s g) = ReferenceIdeal.Hand.inv (Spec.amax (Spec.xnA a0 a1 a2 a3 a4 a5 b) s g) :=
  have hb := Quant.amax_bound (Spec.roA a0 a1 a2 a3 a4 b) (fun d => a5 (ix1 d)) hnw s g
  Quant.agree (P := ReferenceIdeal.Hand.powers) (fun _ => rfl) hb.1 hb.2

/-- The scales agree. -/
theorem xs_eq (b : Fin 3) (s : Fin 384) (g : Fin 16) :
    Spec.xsA KernelIdeal.Hand.scale1 a0 a1 a2 a3 a4 a5 b s g = Spec.xsA ReferenceIdeal.Hand.sc a0 a1 a2 a3 a4 a5 b s g :=
  (scales a0 a1 a2 a3 a4 a5 hnw b s g).1

/-- The codes agree. -/
theorem xc_eq (b : Fin 3) : Spec.xcA KernelIdeal.Hand.inv1 a0 a1 a2 a3 a4 a5 b = Spec.xcA ReferenceIdeal.Hand.inv a0 a1 a2 a3 a4 a5 b :=
  code_congr fun s g => (scales a0 a1 a2 a3 a4 a5 hnw b s g).2

/-- The projections agree. -/
theorem qkv_eq (b : Fin 3) : Spec.qkvA KernelIdeal.Hand.inv1 KernelIdeal.Hand.scale1 a0 a1 a2 a3 a4 a5 a6 a7 b
    = Spec.qkvA ReferenceIdeal.Hand.inv ReferenceIdeal.Hand.sc a0 a1 a2 a3 a4 a5 a6 a7 b := by
  unfold Spec.qkvA
  rw [xd_congr (fun s g => (scales a0 a1 a2 a3 a4 a5 hnw b s g).2) (fun s g => (scales a0 a1 a2 a3 a4 a5 hnw b s g).1)]

/-- The rotated heads agree. -/
theorem rope_eq (b : Fin 3) : Spec.ropeA KernelIdeal.Hand.inv1 KernelIdeal.Hand.scale1 KernelIdeal.Hand.freq a0 a1 a2 a3 a4 a5 a6 a7 a8 b
    = Spec.ropeA ReferenceIdeal.Hand.inv ReferenceIdeal.Hand.sc ReferenceIdeal.Hand.freq a0 a1 a2 a3 a4 a5 a6 a7 a8 b := by
  unfold Spec.ropeA
  rw [qkv_eq a0 a1 a2 a3 a4 a5 a6 a7 hnw, freq_eq]

/-! The same with the two programs' arguments apart, and equal. -/

variable {b0 : (⟨3, ![3, 384, 8192]⟩ : Shape).Idx → EReal} {b1 : (⟨3, ![3, 384, 64]⟩ : Shape).Idx → EReal}
  {b2 : (⟨2, ![8192, 2048]⟩ : Shape).Idx → EReal} {b3 : (⟨2, ![64, 16]⟩ : Shape).Idx → EReal}
  {b4 : (⟨3, ![3, 384, 2048]⟩ : Shape).Idx → EReal} {b5 : (⟨1, ![2048]⟩ : Shape).Idx → EReal}
  {b6 : (⟨2, ![2048, 3072]⟩ : Shape).Idx → EReal} {b7 : (⟨2, ![16, 24]⟩ : Shape).Idx → EReal}
  {b8 : (⟨2, ![3, 384]⟩ : Shape).Idx → BitVec 32}

omit hnw in
/-- The first result. -/
theorem ro_of (h0 : b0 = a0) (h1 : b1 = a1) (h2 : b2 = a2) (h3 : b3 = a3) (h4 : b4 = a4) (b : Fin 3) :
    Spec.roA b0 b1 b2 b3 b4 b = Spec.roA a0 a1 a2 a3 a4 b := by
  subst h0 h1 h2 h3 h4; rfl

/-- The scales. -/
theorem xs_of (h0 : b0 = a0) (h1 : b1 = a1) (h2 : b2 = a2) (h3 : b3 = a3) (h4 : b4 = a4) (h5 : b5 = a5) (b : Fin 3) (s : Fin 384) (g : Fin 16) :
    Spec.xsA ReferenceIdeal.Hand.sc b0 b1 b2 b3 b4 b5 b s g = Spec.xsA KernelIdeal.Hand.scale1 a0 a1 a2 a3 a4 a5 b s g := by
  subst h0 h1 h2 h3 h4 h5; exact (xs_eq _ _ _ _ _ _ hnw b s g).symm

/-- The codes. -/
theorem xc_of (h0 : b0 = a0) (h1 : b1 = a1) (h2 : b2 = a2) (h3 : b3 = a3) (h4 : b4 = a4) (h5 : b5 = a5) (b : Fin 3) :
    Spec.xcA ReferenceIdeal.Hand.inv b0 b1 b2 b3 b4 b5 b = Spec.xcA KernelIdeal.Hand.inv1 a0 a1 a2 a3 a4 a5 b := by
  subst h0 h1 h2 h3 h4 h5; exact (xc_eq _ _ _ _ _ _ hnw b).symm

/-- The projection. -/
theorem qkv_of (h0 : b0 = a0) (h1 : b1 = a1) (h2 : b2 = a2) (h3 : b3 = a3) (h4 : b4 = a4) (h5 : b5 = a5) (h6 : b6 = a6) (h7 : b7 = a7) (b : Fin 3) :
    Spec.qkvA ReferenceIdeal.Hand.inv ReferenceIdeal.Hand.sc b0 b1 b2 b3 b4 b5 b6 b7 b
      = Spec.qkvA KernelIdeal.Hand.inv1 KernelIdeal.Hand.scale1 a0 a1 a2 a3 a4 a5 a6 a7 b := by
  subst h0 h1 h2 h3 h4 h5 h6 h7; exact (qkv_eq _ _ _ _ _ _ _ _ hnw b).symm

/-- The rotated heads. -/
theorem rope_of (h0 : b0 = a0) (h1 : b1 = a1) (h2 : b2 = a2) (h3 : b3 = a3) (h4 : b4 = a4) (h5 : b5 = a5) (h6 : b6 = a6) (h7 : b7 = a7) (h8 : b8 = a8) (b : Fin 3) :
    Spec.ropeA ReferenceIdeal.Hand.inv ReferenceIdeal.Hand.sc ReferenceIdeal.Hand.freq b0 b1 b2 b3 b4 b5 b6 b7 b8 b
      = Spec.ropeA KernelIdeal.Hand.inv1 KernelIdeal.Hand.scale1 KernelIdeal.Hand.freq a0 a1 a2 a3 a4 a5 a6 a7 a8 b := by
  subst h0 h1 h2 h3 h4 h5 h6 h7 h8; exact (rope_eq _ _ _ _ _ _ _ _ _ hnw b).symm

end agree

/-- What the precondition says of the norm's weights: each is at most the largest finite float32 in magnitude. -/
theorem weights_finite (m : (ℓ : Loc KernelIdeal.nD KernelIdeal.τ KernelIdeal.sig) → Buf (Elt Ideal) ℓ) (h : Cert.Pre_KernelIdeal_norm_w_finite m)
    (c : Dev KernelIdeal.nD) (d : Fin 2048) :
    FloatOps.absf (F := Ideal) (φ := .f32) (KernelIdeal.Hand.A5 m c (ix1 d)) ≤ Ideal.ofBits .f32 0x7F7FFFFF#32 := by
  have h1 := congrFun (h c) (ix1 d)
  unfold Cert.Pre_norm_w_finite.fn at h1
  revert h1
  pointwise
  intro h1
  by_contra hn
  rw [decide_eq_false hn] at h1
  exact absurd h1 (by decide)

/-- From equal arguments with finite norm weights, the two programs return equal results. -/
theorem algebraic : Cert.algebraic_KernelIdeal_ReferenceIdeal_pre_norm_w_finite := by
  intro m g m' g' hpre hargs
  have hw := weights_finite m hpre
  refine ⟨KernelIdeal.Hand.G_ro m, KernelIdeal.Hand.G_q m, KernelIdeal.Hand.G_k m, KernelIdeal.Hand.G_v m, KernelIdeal.Hand.G_xc m, KernelIdeal.Hand.G_xs m,
    KernelIdeal.Hand.results m g, (θ_run _ _ _).mono ?_ (ReferenceIdeal.Hand.results m' g')⟩
  rintro r h c
  obtain ⟨h0, h1, h2, h3, h4, h5, h6, h7, h8⟩ := hargs c
  obtain ⟨r0, r1, r2, r3, r4, r5, hrest⟩ := h c
  exact ⟨r0.trans (funext fun j => congrFun (congrFun (ro_of _ _ _ _ _ h0 h1 h2 h3 h4 (j 0)) (j 1)) (j 2)),
    r1.trans (funext fun j => congrFun (congrFun (congrFun (rope_of _ _ _ _ _ _ _ _ _ (hw c) h0 h1 h2 h3 h4 h5 h6 h7 h8 (j 0)) (j 1)) (Spec.qHead (j 2))) (j 3)),
    r2.trans (funext fun j => congrFun (congrFun (congrFun (rope_of _ _ _ _ _ _ _ _ _ (hw c) h0 h1 h2 h3 h4 h5 h6 h7 h8 (j 0)) (j 1)) (Spec.kHead (j 2))) (j 3)),
    r3.trans (funext fun j => congrFun (congrFun (qkv_of _ _ _ _ _ _ _ _ (hw c) h0 h1 h2 h3 h4 h5 h6 h7 (j 0)) (j 1)) (Spec.vCol (j 2) (j 3))),
    r4.trans (funext fun j => congrFun (congrFun (xc_of _ _ _ _ _ _ (hw c) h0 h1 h2 h3 h4 h5 (j 0)) (j 1)) (j 2)),
    r5.trans (funext fun j => xs_of _ _ _ _ _ _ (hw c) h0 h1 h2 h3 h4 h5 (j 0) (j 1) (j 2)), hrest⟩

end Cert.Proof

end
-- ==== Proof.PrintedRun.lean ====
/- The run of the kernel as it is printed, at any instance of floats: the body runs at every point of the grid, and nothing is
   said of what it leaves in the outputs. The run is that of a generated frame whose outputs nothing reads. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v4, main_v5, main_v6, main_v7}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      (Pipeline.RDat.FramePostR.arr_in h c 3 rfl).trans ((hA c 3).trans (V_main_arg3 m c)),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      (Pipeline.RDat.FramePostR.arr_in h c 7 rfl).trans ((hA c 7).trans (V_main_arg7 m c)),
      ((h c).2 main_arg8 (Finset.mem_sdiff.mpr ⟨Pipeline.mem_restRefs_of main_arg8 (by decide) (by decide), by decide⟩)).trans (V_main_arg8 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x384x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x3072 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S16x24 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x384 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x64x384 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x64x384 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8x64x384 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x384x2048 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x16x384 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S384x8192 .bf16 := Memref.whole cc0_scratch0
abbrev scM0_1 : Memref sig .tc .vmem S384x128 .f32 := Memref.whole cc0_scratch1
abbrev scM0_2 : Memref sig .tc .vmem S384x2048 .bf16 := Memref.whole cc0_scratch2
abbrev scM0_3 : Memref sig .tc .vmem S32x384 .f32 := Memref.whole cc0_scratch3
abbrev scM0_4 : Memref sig .tc .vmem S32x384 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 7832000 in
/-- The body's triple: on whole staging memrefs — the inputs' at their contents,
    the FORGOTTEN outputs' (10, 11, 12, 13, 14, 15) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x384x8192 .fp8e4m3) (harg1 : arg1.IsWhole) (arg2 : Memref sig .tc .vmem S1x64x384 .f32) (harg2 : arg2.IsWhole) (arg3 : Memref sig .tc .vmem S8192x2048 .fp8e4m3) (harg3 : arg3.IsWhole) (arg4 : Memref sig .tc .smem S64x16 .f32) (harg4 : arg4.IsWhole) (arg5 : Memref sig .tc .vmem S1x384x2048 .bf16) (harg5 : arg5.IsWhole) (arg6 : Memref sig .tc .vmem S1x2048 .f32) (harg6 : arg6.IsWhole) (arg7 : Memref sig .tc .vmem S2048x3072 .fp8e4m3) (harg7 : arg7.IsWhole) (arg8 : Memref sig .tc .smem S16x24 .f32) (harg8 : arg8.IsWhole) (arg9 : Memref sig .tc .vmem S1x1x384 .i32) (harg9 : arg9.IsWhole) (arg10 : Memref sig .tc .vmem S32x1 .f32) (harg10 : arg10.IsWhole) (arg11 : Memref sig .tc .vmem S1x384x2048 .bf16) (harg11 : arg11.IsWhole) (arg12 : Memref sig .tc .vmem S1x32x64x384 .bf16) (harg12 : arg12.IsWhole) (arg13 : Memref sig .tc .vmem S1x8x64x384 .bf16) (harg13 : arg13.IsWhole) (arg14 : Memref sig .tc .vmem S1x8x64x384 .bf16) (harg14 : arg14.IsWhole) (arg15 : Memref sig .tc .vmem S1x384x2048 .fp8e4m3) (harg15 : arg15.IsWhole) (arg16 : Memref sig .tc .vmem S1x16x384 .f32) (harg16 : arg16.IsWhole) (arg17 : Memref sig .tc .vmem S384x8192 .bf16) (harg17 : arg17.IsWhole) (arg18 : Memref sig .tc .vmem S384x128 .f32) (harg18 : arg18.IsWhole) (arg19 : Memref sig .tc .vmem S384x2048 .bf16) (harg19 : arg19.IsWhole) (arg20 : Memref sig .tc .vmem S32x384 .f32) (harg20 : arg20.IsWhole) (arg21 : Memref sig .tc .vmem S32x384 .f32) (harg21 : arg21.IsWhole)
    (x0 : Vec F S1x384x8192 .fp8e4m3) (x1 : Vec F S1x64x384 .f32) (x2 : Vec F S8192x2048 .fp8e4m3) (x3 : Vec F S64x16 .f32) (x4 : Vec F S1x384x2048 .bf16) (x5 : Vec F S1x2048 .f32) (x6 : Vec F S2048x3072 .fp8e4m3) (x7 : Vec F S16x24 .f32) (x8 : Vec F S1x1x384 .i32) (x9 : Vec F S32x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_junction i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_junction_eq_skeleton]; unfold cc0_junction_skel
    simp only [k0_part176_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part177_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part178_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Hand

end
-- ==== Proof.PrintedFrame.lean ====
/- The frame of the kernel as it is printed, at any instance of floats: every execution returns with its arguments unchanged and
   every semaphore counter at zero. -/
module

public import proofs.«01_k».proof.Proof.PrintedRun
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13, 14, 15): nothing reads what the kernel leaves in them, so nothing
    of it is named (Lib/Pipeline/Dat.lean `Dat.toRForget`). -/
def forgets0 : Fin 16 → Bool := fun w => w.val == 10 || w.val == 11 || w.val == 12 || w.val == 13 || w.val == 14 || w.val == 15

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- For any values, from any memory with zero counters: every weakly fair execution of @main on the
    TensorCores terminates, and every final state has every INPUT array of the pipeline unchanged, nothing stated of the
    FORGOTTEN outputs (windows 10, 11, 12, 13, 14, 15) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_Kernel`'s statement (Defs.lean) at any `F` — Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Hand

end
-- ==== Proof.lean ====
/- The five claims: both programs return with nothing running, the idealized kernel is the kernel's own text, and over the
   extended reals kernel and reference return the same six results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_norm_w_finite
public import proofs.«01_k».proof.Proof.Agree
public import proofs.«01_k».proof.Proof.PrintedFrame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_norm_w_finite.Gen.facts,
    fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ, trivial, Cert.Proof.algebraic⟩

end Cert.Proof

end
